-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S1x2048x1024 : Shape := ⟨3, ![1, 2048, 1024]⟩
abbrev S1024 : Shape := ⟨1, ![1024]⟩
abbrev S1024x1024 : Shape := ⟨2, ![1024, 1024]⟩
abbrev S4096x1024 : Shape := ⟨2, ![4096, 1024]⟩
abbrev S4096 : Shape := ⟨1, ![4096]⟩
abbrev S1024x4096 : Shape := ⟨2, ![1024, 4096]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x2048x16x64 : Shape := ⟨4, ![1, 2048, 16, 64]⟩
abbrev S1x16x2048x64 : Shape := ⟨4, ![1, 16, 2048, 64]⟩
abbrev S1x16x64x2048 : Shape := ⟨4, ![1, 16, 64, 2048]⟩
abbrev S16x2048x64 : Shape := ⟨3, ![16, 2048, 64]⟩
abbrev S16x64x2048 : Shape := ⟨3, ![16, 64, 2048]⟩
abbrev S16x2048x2048 : Shape := ⟨3, ![16, 2048, 2048]⟩
abbrev S1x16x2048x2048 : Shape := ⟨4, ![1, 16, 2048, 2048]⟩
abbrev S1x16x2048x205 : Shape := ⟨4, ![1, 16, 2048, 205]⟩
abbrev S1x16x2048 : Shape := ⟨3, ![1, 16, 2048]⟩
abbrev S1x16x2048x1 : Shape := ⟨4, ![1, 16, 2048, 1]⟩

class Facts : Prop where
  reducesTo_S1x2048x1024_S1x2048_d2 : S1x2048x1024.ReducesTo [2] S1x2048
  h_S_ : 0 < S_.numel
  bcast_S1x2048_S1x2048x1_0_1 : S1x2048.BroadcastsInDim S1x2048x1 (![0, 1] : Fin 2 → Fin S1x2048x1.rank)
  bcast_S_S1x2048x1 : S_.BroadcastsInDim S1x2048x1 (![] : Fin 0 → Fin S1x2048x1.rank)
  bcast_S1x2048x1_S1x2048x1024_0_1_2 : S1x2048x1.BroadcastsInDim S1x2048x1024 (![0, 1, 2] : Fin 3 → Fin S1x2048x1024.rank)
  bcast_S1024_S1x1x1024_2 : S1024.BroadcastsInDim S1x1x1024 (![2] : Fin 1 → Fin S1x1x1024.rank)
  bcast_S1x1x1024_S1x2048x1024_0_1_2 : S1x1x1024.BroadcastsInDim S1x2048x1024 (![0, 1, 2] : Fin 3 → Fin S1x2048x1024.rank)
  transposes_S1024x1024_S1024x1024_1_0 : S1024x1024.Transposes [1, 0] S1024x1024
  shapeCasts_S1x2048x1024_S1x2048x16x64 : S1x2048x1024.ShapeCasts S1x2048x16x64
  transposes_S1x2048x16x64_S1x16x2048x64_0_2_1_3 : S1x2048x16x64.Transposes [0, 2, 1, 3] S1x16x2048x64
  transposes_S1x16x2048x64_S1x16x64x2048_0_1_3_2 : S1x16x2048x64.Transposes [0, 1, 3, 2] S1x16x64x2048
  shapeCasts_S1x16x2048x64_S16x2048x64 : S1x16x2048x64.ShapeCasts S16x2048x64
  shapeCasts_S1x16x64x2048_S16x64x2048 : S1x16x64x2048.ShapeCasts S16x64x2048
  bcast_S16x2048x2048_S1x16x2048x2048_1_2_3 : S16x2048x2048.BroadcastsInDim S1x16x2048x2048 (![1, 2, 3] : Fin 3 → Fin S1x16x2048x2048.rank)
  bcast_S_S1x16x2048x2048 : S_.BroadcastsInDim S1x16x2048x2048 (![] : Fin 0 → Fin S1x16x2048x2048.rank)
  sliceFits_S1x16x2048x2048_S1x16x2048x205 : S1x16x2048x2048.Slices (fun _ => 0) S1x16x2048x205
  reducesTo_S1x16x2048x2048_S1x16x2048_d3 : S1x16x2048x2048.ReducesTo [3] S1x16x2048
  slices_S1x16x2048x205_S1x16x2048x1_0_0_0_203 : S1x16x2048x205.Slices ![0, 0, 0, 203] S1x16x2048x1
  shapeCasts_S1x16x2048x1_S1x16x2048 : S1x16x2048x1.ShapeCasts S1x16x2048
  slices_S1x16x2048x205_S1x16x2048x1_0_0_0_204 : S1x16x2048x205.Slices ![0, 0, 0, 204] S1x16x2048x1
  bcast_S_S1x16x2048 : S_.BroadcastsInDim S1x16x2048 (![] : Fin 0 → Fin S1x16x2048.rank)
  dot_S1x2048x1024_S1024x1024_S1x2048x1024_2_0_01_1_n_n_wf : DotDims.WF S1x2048x1024 S1024x1024 S1x2048x1024 [2] [0] [0, 1] [1] [] []
  dot_S16x2048x64_S16x64x2048_S16x2048x2048_2_1_1_2_0_0_wf : DotDims.WF S16x2048x64 S16x64x2048 S16x2048x2048 [2] [1] [1] [2] [0] [0]

variable [Facts]

def dot_S1x2048x1024_S1024x1024_S1x2048x1024_2_0_01_1_n_n : DotDims S1x2048x1024 S1024x1024 S1x2048x1024 where
  lhsContracting := [2]
  rhsContracting := [0]
  lhsNonContracting := [0, 1]
  rhsNonContracting := [1]
  lhsBatch := []
  rhsBatch := []
  wf := dot_S1x2048x1024_S1024x1024_S1x2048x1024_2_0_01_1_n_n_wf
def dot_S16x2048x64_S16x64x2048_S16x2048x2048_2_1_1_2_0_0 : DotDims S16x2048x64 S16x64x2048 S16x2048x2048 where
  lhsContracting := [2]
  rhsContracting := [1]
  lhsNonContracting := [1]
  rhsNonContracting := [2]
  lhsBatch := [0]
  rhsBatch := [0]
  wf := dot_S16x2048x64_S16x64x2048_S16x2048x2048_2_1_1_2_0_0_wf
def fn_part2 {F : FTy → Type} [FloatOps F] (main_v40 : FVec F S1x16x2048x2048 .f32) (main_values : FVec F S1x16x2048x205 .f32) : IVec S1x16x2048 1 :=
  let main_indices : IVec S1x16x2048x205 32 := (fun x => (Host.topK S1x16x2048x205 3 (FloatOps.cmpfTotal .gt) x sliceFits_S1x16x2048x2048_S1x16x2048x205).2) main_v40
  let main_cst_5 : FVec F S_ .f32 := constant S_ .f32 0xFF800000#32
  let main_v41 : FVec F S1x16x2048 .f32 := (fun x v => Host.reduce FloatOps.maximumf x v reducesTo_S1x16x2048x2048_S1x16x2048_d3 h_S_) main_v40 main_cst_5
  let main_cst_6 : FVec F S_ .f32 := constant S_ .f32 0x7F800000#32
  let main_v42 : FVec F S1x16x2048 .f32 := (fun x v => Host.reduce FloatOps.minimumf x v reducesTo_S1x16x2048x2048_S1x16x2048_d3 h_S_) main_v40 main_cst_6
  let main_v43 : FVec F S1x16x2048 .f32 := subf main_v41 main_v42
  let main_v44 : FVec F S1x16x2048x1 .f32 := (extractStridedSlice S1x16x2048x1 ![0, 0, 0, 203] · slices_S1x16x2048x205_S1x16x2048x1_0_0_0_203) main_values
  let main_v45 : FVec F S1x16x2048 .f32 := shapeCast S1x16x2048 main_v44 shapeCasts_S1x16x2048x1_S1x16x2048
  let main_v46 : FVec F S1x16x2048x1 .f32 := (extractStridedSlice S1x16x2048x1 ![0, 0, 0, 204] · slices_S1x16x2048x205_S1x16x2048x1_0_0_0_204) main_values
  let main_v47 : FVec F S1x16x2048 .f32 := shapeCast S1x16x2048 main_v46 shapeCasts_S1x16x2048x1_S1x16x2048
  let main_v48 : FVec F S1x16x2048 .f32 := subf main_v45 main_v47
  let main_cst_7 : FVec F S_ .f32 := constant S_ .f32 0x38800000#32
  let main_v49 : FVec F S1x16x2048 .f32 := broadcastInDim S1x16x2048 ![] bcast_S_S1x16x2048 main_cst_7
  let main_v50 : FVec F S1x16x2048 .f32 := mulf main_v43 main_v49
  let main_v51 : IVec S1x16x2048 1 := cmpf .ogt main_v48 main_v50
  main_v51

def fn_part1 {F : FTy → Type} [FloatOps F] (main_arg1 : FVec F S1024 .f32) (main_arg2 : FVec F S1024 .f32) (main_arg3 : FVec F S1024x1024 .f32) (main_arg4 : FVec F S1024x1024 .f32) (main_v14 : FVec F S1x2048x1024 .f32) (main_v18 : FVec F S1x2048x1024 .f32) : IVec S1x16x2048 1 :=
  let main_v19 : FVec F S1x2048x1024 .f32 := Host.divf main_v14 main_v18
  let main_v20 : FVec F S1x1x1024 .f32 := broadcastInDim S1x1x1024 ![2] bcast_S1024_S1x1x1024_2 main_arg1
  let main_v21 : FVec F S1x2048x1024 .f32 := broadcastInDim S1x2048x1024 ![0, 1, 2] bcast_S1x1x1024_S1x2048x1024_0_1_2 main_v20
  let main_v22 : FVec F S1x2048x1024 .f32 := mulf main_v19 main_v21
  let main_v23 : FVec F S1x1x1024 .f32 := broadcastInDim S1x1x1024 ![2] bcast_S1024_S1x1x1024_2 main_arg2
  let main_v24 : FVec F S1x2048x1024 .f32 := broadcastInDim S1x2048x1024 ![0, 1, 2] bcast_S1x1x1024_S1x2048x1024_0_1_2 main_v23
  let main_v25 : FVec F S1x2048x1024 .f32 := addf main_v22 main_v24
  let main_v26 : FVec F S1024x1024 .f32 := (transpose S1024x1024 [1, 0] · transposes_S1024x1024_S1024x1024_1_0) main_arg3
  let main_v27 : FVec F S1x2048x1024 .f32 := (fun l r => Host.dotGeneral dot_S1x2048x1024_S1024x1024_S1x2048x1024_2_0_01_1_n_n none l r) main_v25 main_v26
  let main_v28 : FVec F S1x2048x16x64 .f32 := shapeCast S1x2048x16x64 main_v27 shapeCasts_S1x2048x1024_S1x2048x16x64
  let main_v29 : FVec F S1x16x2048x64 .f32 := (transpose S1x16x2048x64 [0, 2, 1, 3] · transposes_S1x2048x16x64_S1x16x2048x64_0_2_1_3) main_v28
  let main_v30 : FVec F S1024x1024 .f32 := (transpose S1024x1024 [1, 0] · transposes_S1024x1024_S1024x1024_1_0) main_arg4
  let main_v31 : FVec F S1x2048x1024 .f32 := (fun l r => Host.dotGeneral dot_S1x2048x1024_S1024x1024_S1x2048x1024_2_0_01_1_n_n none l r) main_v25 main_v30
  let main_v32 : FVec F S1x2048x16x64 .f32 := shapeCast S1x2048x16x64 main_v31 shapeCasts_S1x2048x1024_S1x2048x16x64
  let main_v33 : FVec F S1x16x2048x64 .f32 := (transpose S1x16x2048x64 [0, 2, 1, 3] · transposes_S1x2048x16x64_S1x16x2048x64_0_2_1_3) main_v32
  let main_v34 : FVec F S1x16x64x2048 .f32 := (transpose S1x16x64x2048 [0, 1, 3, 2] · transposes_S1x16x2048x64_S1x16x64x2048_0_1_3_2) main_v33
  let main_v35 : FVec F S16x2048x64 .f32 := shapeCast S16x2048x64 main_v29 shapeCasts_S1x16x2048x64_S16x2048x64
  let main_v36 : FVec F S16x64x2048 .f32 := shapeCast S16x64x2048 main_v34 shapeCasts_S1x16x64x2048_S16x64x2048
  let main_v37 : FVec F S16x2048x2048 .f32 := (fun l r => Host.dotGeneral dot_S16x2048x64_S16x64x2048_S16x2048x2048_2_1_1_2_0_0 none l r) main_v35 main_v36
  let main_v38 : FVec F S1x16x2048x2048 .f32 := broadcastInDim S1x16x2048x2048 ![1, 2, 3] bcast_S16x2048x2048_S1x16x2048x2048_1_2_3 main_v37
  let main_cst_4 : FVec F S_ .f32 := constant S_ .f32 0x3E000000#32
  let main_v39 : FVec F S1x16x2048x2048 .f32 := broadcastInDim S1x16x2048x2048 ![] bcast_S_S1x16x2048x2048 main_cst_4
  let main_v40 : FVec F S1x16x2048x2048 .f32 := mulf main_v38 main_v39
  let main_values : FVec F S1x16x2048x205 .f32 := (fun x => (Host.topK S1x16x2048x205 3 (FloatOps.cmpfTotal .gt) x sliceFits_S1x16x2048x2048_S1x16x2048x205).1) main_v40
  fn_part2 (F := F) main_v40 main_values

def fn {F : FTy → Type} [FloatOps F] (main_arg0 : FVec F S1x2048x1024 .f32) (main_arg1 : FVec F S1024 .f32) (main_arg2 : FVec F S1024 .f32) (main_arg3 : FVec F S1024x1024 .f32) (main_arg4 : FVec F S1024x1024 .f32) (main_arg5 : FVec F S1024x1024 .f32) (main_arg6 : FVec F S1024x1024 .f32) (main_arg7 : FVec F S1024 .f32) (main_arg8 : FVec F S1024 .f32) (main_arg9 : FVec F S1024 .f32) (main_arg10 : FVec F S4096x1024 .f32) (main_arg11 : FVec F S4096 .f32) (main_arg12 : FVec F S1024x4096 .f32) (main_arg13 : FVec F S1024 .f32) : IVec S1x16x2048 1 :=
  let main_cst : FVec F S_ .f32 := constant S_ .f32 0x00000000#32
  let main_v0 : FVec F S1x2048 .f32 := (fun x v => Host.reduceAdd x v reducesTo_S1x2048x1024_S1x2048_d2 h_S_) main_arg0 main_cst
  let main_v1 : FVec F S1x2048x1 .f32 := broadcastInDim S1x2048x1 ![0, 1] bcast_S1x2048_S1x2048x1_0_1 main_v0
  let main_cst_0 : FVec F S_ .f32 := constant S_ .f32 0x44800000#32
  let main_v2 : FVec F S1x2048x1 .f32 := broadcastInDim S1x2048x1 ![] bcast_S_S1x2048x1 main_cst_0
  let main_v3 : FVec F S1x2048x1 .f32 := Host.divf main_v1 main_v2
  let main_v4 : FVec F S1x2048x1024 .f32 := broadcastInDim S1x2048x1024 ![0, 1, 2] bcast_S1x2048x1_S1x2048x1024_0_1_2 main_v3
  let main_v5 : FVec F S1x2048x1024 .f32 := subf main_arg0 main_v4
  let main_v6 : FVec F S1x2048x1024 .f32 := broadcastInDim S1x2048x1024 ![0, 1, 2] bcast_S1x2048x1_S1x2048x1024_0_1_2 main_v3
  let main_v7 : FVec F S1x2048x1024 .f32 := subf main_arg0 main_v6
  let main_v8 : FVec F S1x2048x1024 .f32 := mulf main_v5 main_v7
  let main_cst_1 : FVec F S_ .f32 := constant S_ .f32 0x00000000#32
  let main_v9 : FVec F S1x2048 .f32 := (fun x v => Host.reduceAdd x v reducesTo_S1x2048x1024_S1x2048_d2 h_S_) main_v8 main_cst_1
  let main_v10 : FVec F S1x2048x1 .f32 := broadcastInDim S1x2048x1 ![0, 1] bcast_S1x2048_S1x2048x1_0_1 main_v9
  let main_cst_2 : FVec F S_ .f32 := constant S_ .f32 0x44800000#32
  let main_v11 : FVec F S1x2048x1 .f32 := broadcastInDim S1x2048x1 ![] bcast_S_S1x2048x1 main_cst_2
  let main_v12 : FVec F S1x2048x1 .f32 := Host.divf main_v10 main_v11
  let main_v13 : FVec F S1x2048x1024 .f32 := broadcastInDim S1x2048x1024 ![0, 1, 2] bcast_S1x2048x1_S1x2048x1024_0_1_2 main_v3
  let main_v14 : FVec F S1x2048x1024 .f32 := subf main_arg0 main_v13
  let main_cst_3 : FVec F S_ .f32 := constant S_ .f32 0x3727C5AC#32
  let main_v15 : FVec F S1x2048x1 .f32 := broadcastInDim S1x2048x1 ![] bcast_S_S1x2048x1 main_cst_3
  let main_v16 : FVec F S1x2048x1 .f32 := addf main_v12 main_v15
  let main_v17 : FVec F S1x2048x1 .f32 := Host.sqrt main_v16
  let main_v18 : FVec F S1x2048x1024 .f32 := broadcastInDim S1x2048x1024 ![0, 1, 2] bcast_S1x2048x1_S1x2048x1024_0_1_2 main_v17
  fn_part1 (F := F) main_arg1 main_arg2 main_arg3 main_arg4 main_v14 main_v18
-- ==== Kernel.lean ====
abbrev S1x2048x1024 : Shape := ⟨3, ![1, 2048, 1024]⟩
abbrev S1024 : Shape := ⟨1, ![1024]⟩
abbrev S1024x1024 : Shape := ⟨2, ![1024, 1024]⟩
abbrev S4096x1024 : Shape := ⟨2, ![4096, 1024]⟩
abbrev S4096 : Shape := ⟨1, ![4096]⟩
abbrev S1024x4096 : Shape := ⟨2, ![1024, 4096]⟩
abbrev S2048x1024 : Shape := ⟨2, ![2048, 1024]⟩
abbrev S1x1024 : Shape := ⟨2, ![1, 1024]⟩
abbrev S2048x3072 : Shape := ⟨2, ![2048, 3072]⟩
abbrev S256x1024 : Shape := ⟨2, ![256, 1024]⟩
abbrev S256x3072 : Shape := ⟨2, ![256, 3072]⟩
abbrev S256 : Shape := ⟨1, ![256]⟩
abbrev S256x1 : Shape := ⟨2, ![256, 1]⟩
abbrev S256x128 : Shape := ⟨2, ![256, 128]⟩
abbrev S2048x128 : Shape := ⟨2, ![2048, 128]⟩
abbrev S256x64 : Shape := ⟨2, ![256, 64]⟩
abbrev S2048x64 : Shape := ⟨2, ![2048, 64]⟩
abbrev S256x2048 : Shape := ⟨2, ![256, 2048]⟩
abbrev S1x4096 : Shape := ⟨2, ![1, 4096]⟩
abbrev S256x4096 : Shape := ⟨2, ![256, 4096]⟩

abbrev nBuf : Space → Nat
  | .hbm => 26
  | .vmem => 31
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S4096x1024, .f32⟩
  | .hbm, ⟨11, _⟩ => ⟨S4096, .f32⟩
  | .hbm, ⟨12, _⟩ => ⟨S1024x4096, .f32⟩
  | .hbm, ⟨13, _⟩ => ⟨S1024, .f32⟩
  | .hbm, ⟨14, _⟩ => ⟨S2048x1024, .f32⟩
  | .hbm, ⟨15, _⟩ => ⟨S1x1024, .f32⟩
  | .hbm, ⟨16, _⟩ => ⟨S1x1024, .f32⟩
  | .hbm, ⟨17, _⟩ => ⟨S2048x3072, .f32⟩
  | .hbm, ⟨18, _⟩ => ⟨S2048x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x4096, .f32⟩
  | .hbm, ⟨23, _⟩ => ⟨S1x1024, .f32⟩
  | .hbm, ⟨24, _⟩ => ⟨S2048x1024, .f32⟩
  | .hbm, ⟨25, _⟩ => ⟨S1x2048x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S256x3072, .f32⟩
  | .local _ .vmem, ⟨8, _⟩ => ⟨S256x3072, .f32⟩
  | .local _ .vmem, ⟨9, _⟩ => ⟨S256x128, .f32⟩
  | .local _ .vmem, ⟨10, _⟩ => ⟨S256x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S256x128, .f32⟩
  | .local _ .vmem, ⟨16, _⟩ => ⟨S256x128, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S1024x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S4096x1024, .f32⟩
  | .local _ .vmem, ⟨26, _⟩ => ⟨S1x4096, .f32⟩
  | .local _ .vmem, ⟨27, _⟩ => ⟨S1024x4096, .f32⟩
  | .local _ .vmem, ⟨28, _⟩ => ⟨S1x1024, .f32⟩
  | .local _ .vmem, ⟨29, _⟩ => ⟨S256x1024, .f32⟩
  | .local _ .vmem, ⟨30, _⟩ => ⟨S256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg10_0 : Ref sig .tc := ⟨.vmem, 29, rfl⟩
abbrev cc2_stg10_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem10_0 : DmaSem sig := 29
abbrev cc2_sem10_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S4096x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x4096 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1024x4096 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S256x1024 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]
-- ==== ReferenceIdeal.lean ====
abbrev S1x2048x1024 : Shape := ⟨3, ![1, 2048, 1024]⟩
abbrev S1024 : Shape := ⟨1, ![1024]⟩
abbrev S1024x1024 : Shape := ⟨2, ![1024, 1024]⟩
abbrev S4096x1024 : Shape := ⟨2, ![4096, 1024]⟩
abbrev S4096 : Shape := ⟨1, ![4096]⟩
abbrev S1024x4096 : Shape := ⟨2, ![1024, 4096]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x2048x16x64 : Shape := ⟨4, ![1, 2048, 16, 64]⟩
abbrev S1x16x2048x64 : Shape := ⟨4, ![1, 16, 2048, 64]⟩
abbrev S1x16x64x2048 : Shape := ⟨4, ![1, 16, 64, 2048]⟩
abbrev S16x2048x64 : Shape := ⟨3, ![16, 2048, 64]⟩
abbrev S16x64x2048 : Shape := ⟨3, ![16, 64, 2048]⟩
abbrev S16x2048x2048 : Shape := ⟨3, ![16, 2048, 2048]⟩
abbrev S1x16x2048x2048 : Shape := ⟨4, ![1, 16, 2048, 2048]⟩
abbrev S1x16x2048 : Shape := ⟨3, ![1, 16, 2048]⟩
abbrev S1x16x2048x1 : Shape := ⟨4, ![1, 16, 2048, 1]⟩
abbrev S1x16x2048x204 : Shape := ⟨4, ![1, 16, 2048, 204]⟩
abbrev S1 : Shape := ⟨1, ![1]⟩
abbrev S1x1x1x1 : Shape := ⟨4, ![1, 1, 1, 1]⟩
abbrev S16 : Shape := ⟨1, ![16]⟩
abbrev S1x16x1x1 : Shape := ⟨4, ![1, 16, 1, 1]⟩
abbrev S2048 : Shape := ⟨1, ![2048]⟩
abbrev S1x1x2048x1 : Shape := ⟨4, ![1, 1, 2048, 1]⟩
abbrev S1x16x2048x204x1 : Shape := ⟨5, ![1, 16, 2048, 204, 1]⟩
abbrev S1x16x2048x204x4 : Shape := ⟨5, ![1, 16, 2048, 204, 4]⟩
abbrev S1x2048x4096 : Shape := ⟨3, ![1, 2048, 4096]⟩
abbrev S1x1x4096 : Shape := ⟨3, ![1, 1, 4096]⟩

abbrev nBuf : Space → Nat
  | .hbm => 185
  | .vmem => 0
  | .smem => 0
  | _ => 0

abbrev hbmTy0_0 (i : Nat) : BufTy := match i % 128 with
  | 0 => ⟨S1x2048x1024, .f32⟩
  | 1 => ⟨S1024, .f32⟩
  | 2 => ⟨S1024, .f32⟩
  | 3 => ⟨S1024x1024, .f32⟩
  | 4 => ⟨S1024x1024, .f32⟩
  | 5 => ⟨S1024x1024, .f32⟩
  | 6 => ⟨S1024x1024, .f32⟩
  | 7 => ⟨S1024, .f32⟩
  | 8 => ⟨S1024, .f32⟩
  | 9 => ⟨S1024, .f32⟩
  | 10 => ⟨S4096x1024, .f32⟩
  | 11 => ⟨S4096, .f32⟩
  | 12 => ⟨S1024x4096, .f32⟩
  | 13 => ⟨S1024, .f32⟩
  | 14 => ⟨S_, .f32⟩
  | 15 => ⟨S1x2048, .f32⟩
  | 16 => ⟨S1x2048x1, .f32⟩
  | 17 => ⟨S_, .f32⟩
  | 18 => ⟨S1x2048x1, .f32⟩
  | 19 => ⟨S1x2048x1, .f32⟩
  | 20 => ⟨S1x2048x1024, .f32⟩
  | 21 => ⟨S1x2048x1024, .f32⟩
  | 22 => ⟨S1x2048x1024, .f32⟩
  | 23 => ⟨S_, .f32⟩
  | 24 => ⟨S1x2048, .f32⟩
  | 25 => ⟨S1x2048x1, .f32⟩
  | 26 => ⟨S_, .f32⟩
  | 27 => ⟨S1x2048x1, .f32⟩
  | 28 => ⟨S1x2048x1, .f32⟩
  | 29 => ⟨S1x2048x1024, .f32⟩
  | 30 => ⟨S1x2048x1024, .f32⟩
  | 31 => ⟨S_, .f32⟩
  | 32 => ⟨S1x2048x1, .f32⟩
  | 33 => ⟨S1x2048x1, .f32⟩
  | 34 => ⟨S1x2048x1, .f32⟩
  | 35 => ⟨S1x2048x1024, .f32⟩
  | 36 => ⟨S1x2048x1024, .f32⟩
  | 37 => ⟨S1x1x1024, .f32⟩
  | 38 => ⟨S1x2048x1024, .f32⟩
  | 39 => ⟨S1x2048x1024, .f32⟩
  | 40 => ⟨S1x1x1024, .f32⟩
  | 41 => ⟨S1x2048x1024, .f32⟩
  | 42 => ⟨S1x2048x1024, .f32⟩
  | 43 => ⟨S1024x1024, .f32⟩
  | 44 => ⟨S1x2048x1024, .f32⟩
  | 45 => ⟨S1x2048x16x64, .f32⟩
  | 46 => ⟨S1x16x2048x64, .f32⟩
  | 47 => ⟨S1024x1024, .f32⟩
  | 48 => ⟨S1x2048x1024, .f32⟩
  | 49 => ⟨S1x2048x16x64, .f32⟩
  | 50 => ⟨S1x16x2048x64, .f32⟩
  | 51 => ⟨S1024x1024, .f32⟩
  | 52 => ⟨S1x2048x1024, .f32⟩
  | 53 => ⟨S1x2048x16x64, .f32⟩
  | 54 => ⟨S1x16x2048x64, .f32⟩
  | 55 => ⟨S1x16x64x2048, .f32⟩
  | 56 => ⟨S16x2048x64, .f32⟩
  | 57 => ⟨S16x64x2048, .f32⟩
  | 58 => ⟨S16x2048x2048, .f32⟩
  | 59 => ⟨S1x16x2048x2048, .f32⟩
  | 60 => ⟨S_, .f32⟩
  | 61 => ⟨S1x16x2048x2048, .f32⟩
  | 62 => ⟨S1x16x2048x2048, .f32⟩
  | 63 => ⟨S_, .f32⟩
  | 64 => ⟨S1x16x2048, .f32⟩
  | 65 => ⟨S_, .f32⟩
  | 66 => ⟨S1x16x2048, .f32⟩
  | 67 => ⟨S1x16x2048, .f32⟩
  | 68 => ⟨S1x16x2048x1, .f32⟩
  | 69 => ⟨S1x16x2048x2048, .f32⟩
  | 70 => ⟨S1x16x2048x2048, .f32⟩
  | 71 => ⟨S1x16x2048x2048, .f32⟩
  | 72 => ⟨S_, .f32⟩
  | 73 => ⟨S1x16x2048, .f32⟩
  | 74 => ⟨S1x16x2048x1, .f32⟩
  | 75 => ⟨S1x16x2048x2048, .f32⟩
  | 76 => ⟨S1x16x2048x2048, .f32⟩
  | 77 => ⟨S1x16x2048x204, .f32⟩
  | 78 => ⟨S1x16x2048x204, .i32⟩
  | 79 => ⟨S1, .i32⟩
  | 80 => ⟨S1x1x1x1, .i32⟩
  | 81 => ⟨S16, .i32⟩
  | 82 => ⟨S1x16x1x1, .i32⟩
  | 83 => ⟨S2048, .i32⟩
  | 84 => ⟨S1x1x2048x1, .i32⟩
  | 85 => ⟨S_, .f32⟩
  | 86 => ⟨S1x16x2048x2048, .f32⟩
  | 87 => ⟨S_, .i32⟩
  | 88 => ⟨S1x1x1x1, .i32⟩
  | 89 => ⟨S1x1x1x1, .i1⟩
  | 90 => ⟨S_, .i32⟩
  | 91 => ⟨S1x1x1x1, .i32⟩
  | 92 => ⟨S1x1x1x1, .i32⟩
  | 93 => ⟨S1x1x1x1, .i32⟩
  | 94 => ⟨S_, .i32⟩
  | 95 => ⟨S1x16x1x1, .i32⟩
  | 96 => ⟨S1x16x1x1, .i1⟩
  | 97 => ⟨S_, .i32⟩
  | 98 => ⟨S1x16x1x1, .i32⟩
  | 99 => ⟨S1x16x1x1, .i32⟩
  | 100 => ⟨S1x16x1x1, .i32⟩
  | 101 => ⟨S_, .i32⟩
  | 102 => ⟨S1x1x2048x1, .i32⟩
  | 103 => ⟨S1x1x2048x1, .i1⟩
  | 104 => ⟨S_, .i32⟩
  | 105 => ⟨S1x1x2048x1, .i32⟩
  | 106 => ⟨S1x1x2048x1, .i32⟩
  | 107 => ⟨S1x1x2048x1, .i32⟩
  | 108 => ⟨S_, .i32⟩
  | 109 => ⟨S1x16x2048x204, .i32⟩
  | 110 => ⟨S1x16x2048x204, .i1⟩
  | 111 => ⟨S_, .i32⟩
  | 112 => ⟨S1x16x2048x204, .i32⟩
  | 113 => ⟨S1x16x2048x204, .i32⟩
  | 114 => ⟨S1x16x2048x204, .i32⟩
  | 115 => ⟨S1x16x2048x204, .i32⟩
  | 116 => ⟨S1x16x2048x204, .i32⟩
  | 117 => ⟨S1x16x2048x204, .i32⟩
  | 118 => ⟨S1x16x2048x204x1, .i32⟩
  | 119 => ⟨S1x16x2048x204x1, .i32⟩
  | 120 => ⟨S1x16x2048x204x1, .i32⟩
  | 121 => ⟨S1x16x2048x204x1, .i32⟩
  | 122 => ⟨S1x16x2048x204x4, .i32⟩
  | 123 => ⟨S1x16x2048x2048, .f32⟩
  | 124 => ⟨S16x2048x2048, .f32⟩
  | 125 => ⟨S16x2048x64, .f32⟩
  | 126 => ⟨S16x2048x64, .f32⟩
  | 127 => ⟨S1x16x2048x64, .f32⟩
  | _ => ⟨S1x2048x1024, .f32⟩

abbrev hbmTy0_1 (i : Nat) : BufTy := match i % 128 with
  | 0 => ⟨S1x2048x16x64, .f32⟩
  | 1 => ⟨S1x2048x1024, .f32⟩
  | 2 => ⟨S1024x1024, .f32⟩
  | 3 => ⟨S1x2048x1024, .f32⟩
  | 4 => ⟨S1x1x1024, .f32⟩
  | 5 => ⟨S1x2048x1024, .f32⟩
  | 6 => ⟨S1x2048x1024, .f32⟩
  | 7 => ⟨S1x2048x1024, .f32⟩
  | 8 => ⟨S_, .f32⟩
  | 9 => ⟨S1x2048, .f32⟩
  | 10 => ⟨S1x2048x1, .f32⟩
  | 11 => ⟨S_, .f32⟩
  | 12 => ⟨S1x2048x1, .f32⟩
  | 13 => ⟨S1x2048x1, .f32⟩
  | 14 => ⟨S1x2048x1024, .f32⟩
  | 15 => ⟨S1x2048x1024, .f32⟩
  | 16 => ⟨S1x2048x1024, .f32⟩
  | 17 => ⟨S_, .f32⟩
  | 18 => ⟨S1x2048, .f32⟩
  | 19 => ⟨S1x2048x1, .f32⟩
  | 20 => ⟨S_, .f32⟩
  | 21 => ⟨S1x2048x1, .f32⟩
  | 22 => ⟨S1x2048x1, .f32⟩
  | 23 => ⟨S1x2048x1024, .f32⟩
  | 24 => ⟨S1x2048x1024, .f32⟩
  | 25 => ⟨S_, .f32⟩
  | 26 => ⟨S1x2048x1, .f32⟩
  | 27 => ⟨S1x2048x1, .f32⟩
  | 28 => ⟨S1x2048x1, .f32⟩
  | 29 => ⟨S1x2048x1024, .f32⟩
  | 30 => ⟨S1x2048x1024, .f32⟩
  | 31 => ⟨S1x1x1024, .f32⟩
  | 32 => ⟨S1x2048x1024, .f32⟩
  | 33 => ⟨S1x2048x1024, .f32⟩
  | 34 => ⟨S1x1x1024, .f32⟩
  | 35 => ⟨S1x2048x1024, .f32⟩
  | 36 => ⟨S1x2048x1024, .f32⟩
  | 37 => ⟨S1024x4096, .f32⟩
  | 38 => ⟨S1x2048x4096, .f32⟩
  | 39 => ⟨S1x1x4096, .f32⟩
  | 40 => ⟨S1x2048x4096, .f32⟩
  | 41 => ⟨S1x2048x4096, .f32⟩
  | 42 => ⟨S_, .f32⟩
  | 43 => ⟨S1x2048x4096, .f32⟩
  | 44 => ⟨S1x2048x4096, .f32⟩
  | 45 => ⟨S1x2048x4096, .f32⟩
  | 46 => ⟨S_, .f32⟩
  | 47 => ⟨S1x2048x4096, .f32⟩
  | 48 => ⟨S1x2048x4096, .f32⟩
  | 49 => ⟨S1x2048x4096, .f32⟩
  | 50 => ⟨S1x2048x4096, .f32⟩
  | 51 => ⟨S4096x1024, .f32⟩
  | 52 => ⟨S1x2048x1024, .f32⟩
  | 53 => ⟨S1x1x1024, .f32⟩
  | 54 => ⟨S1x2048x1024, .f32⟩
  | 55 => ⟨S1x2048x1024, .f32⟩
  | 56 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_values : Ref sig .tc := ⟨.hbm, 77, rfl⟩
abbrev main_indices : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_8 : Ref sig .tc := ⟨.hbm, 85, rfl⟩
abbrev main_v60 : Ref sig .tc := ⟨.hbm, 86, rfl⟩
abbrev main_c : Ref sig .tc := ⟨.hbm, 87, rfl⟩
abbrev main_v61 : Ref sig .tc := ⟨.hbm, 88, rfl⟩
abbrev main_v62 : Ref sig .tc := ⟨.hbm, 89, rfl⟩
abbrev main_c_9 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_10 : Ref sig .tc := ⟨.hbm, 94, rfl⟩
abbrev main_v66 : Ref sig .tc := ⟨.hbm, 95, rfl⟩
abbrev main_v67 : Ref sig .tc := ⟨.hbm, 96, rfl⟩
abbrev main_c_11 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_12 : Ref sig .tc := ⟨.hbm, 101, rfl⟩
abbrev main_v71 : Ref sig .tc := ⟨.hbm, 102, rfl⟩
abbrev main_v72 : Ref sig .tc := ⟨.hbm, 103, rfl⟩
abbrev main_c_13 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_14 : Ref sig .tc := ⟨.hbm, 108, rfl⟩
abbrev main_v76 : Ref sig .tc := ⟨.hbm, 109, rfl⟩
abbrev main_v77 : Ref sig .tc := ⟨.hbm, 110, rfl⟩
abbrev main_c_15 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_16 : Ref sig .tc := ⟨.hbm, 136, rfl⟩
abbrev main_v102 : Ref sig .tc := ⟨.hbm, 137, rfl⟩
abbrev main_v103 : Ref sig .tc := ⟨.hbm, 138, rfl⟩
abbrev main_cst_17 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_18 : Ref sig .tc := ⟨.hbm, 145, rfl⟩
abbrev main_v109 : Ref sig .tc := ⟨.hbm, 146, rfl⟩
abbrev main_v110 : Ref sig .tc := ⟨.hbm, 147, rfl⟩
abbrev main_cst_19 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_20 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_cst_21 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_cst_22 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩

abbrev nD : Nat := 1
abbrev τ : Topo := Topo.v7x

variable {F : FTy → Type} [FloatOps F]
-- ==== Proof.KernelRun.lean ====
/- The idealized kernel's run with its result: the launch of the generated frame, read at one more buffer. -/
module

public import proofs.«01_k».proof.Proof.Gen.KernelIdeal.Frame

@[expose] public section

set_option maxRecDepth 16384

noncomputable section

namespace Cert.Proof.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel's program terminates with the result array at the contents of the last boundary
    between its parts, and with the argument arrays as they were. -/
theorem run : θ_run defs (onTc (τ := τ) (main (F := F))) ⟨m, fun _ => 0, ρ⟩ (fun r => ∀ c : Dev nD,
      r.2.mem ((c.tc : Thread nD τ).loc main_v11) = W6 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v11 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.Proof.KernelRun

end
end
-- ==== Proof.Row.lean ====
/- One row of the sparse attention, as mathematics over the extended reals: the kernel's threshold search by
   bisection, the reference's choice of the 204 greatest softmax weights, and their equality for a row whose
   204th and 205th scores lie further apart than the search's last interval. -/
module

public import Idealize.ShloMosaic.Lib.SortFacts
public import Idealize.ShloMosaic.PureOps.Ideal.Laws

@[expose] public section

noncomputable section

namespace Cert.Proof.Row

open Idealize.ShloMosaic

/-- The greatest score of a row. -/
def top (s : Fin 2048 → EReal) : EReal := Finset.univ.sup s

/-- The least score of a row. -/
def bot (s : Fin 2048 → EReal) : EReal := Finset.univ.inf s

/-- How many scores reach the value `t`. -/
def cnt (s : Fin 2048 → EReal) (t : EReal) : EReal := ∑ j, if t ≤ s j then 1 else 0

/-- The middle of the search interval. -/
def half (p : EReal × EReal) : EReal := ((1 / 2 : ℝ) : EReal) * (p.1 + p.2)

/-- One step of the search: the lower end moves up to the middle if at least 204 scores reach it,
    else the upper end moves down to it. -/
def step (s : Fin 2048 → EReal) (p : EReal × EReal) : EReal × EReal :=
  (if 204 ≤ cnt s (half p) then half p else p.1, if 204 ≤ cnt s (half p) then p.2 else half p)

/-- The threshold: the lower end after 14 steps from the least and the greatest score. -/
def thr (s : Fin 2048 → EReal) : EReal := ((step s)^[14] (bot s, top s)).1

/-- The weight of a score before normalisation. -/
def wt (s : Fin 2048 → EReal) (j : Fin 2048) : EReal := Ideal.exp (s j - top s)

/-- The sum of all weights of the row. -/
def den (s : Fin 2048 → EReal) : EReal := ∑ j, wt s j

/-- What the kernel computes of a row: the weights of the scores that reach the threshold, against the
    values, over the sum of all weights. -/
def kernelRow (s v : Fin 2048 → EReal) : EReal :=
  Ideal.div (∑ j, (if thr s ≤ s j then wt s j else 0) * v j) (den s)

/-- The positions of a row in descending order of their entries, equal entries in order of position. -/
def order (s : Fin 2048 → EReal) : Fin 2048 → Fin 2048 :=
  sortedFrom fun k k' => Ideal.cmpTotal .gt (s k) (s k') == 1#1

/-- The softmax of a row. -/
def attn (s : Fin 2048 → EReal) (j : Fin 2048) : EReal := Ideal.div (wt s j) (den s)

/-- Position `j` is among the first 204 of the order. -/
def Kept (s : Fin 2048 → EReal) (j : Fin 2048) : Prop := ∃ k : Fin 204, order s (k.castLE (by decide)) = j

open Classical in
/-- What the reference computes of a row: the softmax at its 204 greatest entries and zero elsewhere,
    against the values. -/
def refRow (s v : Fin 2048 → EReal) : EReal := ∑ j, (if Kept (attn s) j then attn s j else 0) * v j

/-- The 204th and the 205th greatest score lie further apart than the search's last interval is wide. -/
def Gap (s : Fin 2048 → EReal) : Prop :=
  (top s - bot s) * ((1 / 16384 : ℝ) : EReal) < s (order s 203) - s (order s 204)

/-- Every score is at most the greatest. -/
theorem le_top (s : Fin 2048 → EReal) (j : Fin 2048) : s j ≤ top s := Finset.le_sup (Finset.mem_univ j)

/-- Every score is at least the least. -/
theorem bot_le (s : Fin 2048 → EReal) (j : Fin 2048) : bot s ≤ s j := Finset.inf_le (Finset.mem_univ j)

/-- The comparison "greater" answers one exactly when the left side is greater. -/
theorem gt_iff (x y : EReal) : (Ideal.cmpTotal .gt x y == 1#1) = decide (y < x) := by
  show (BitVec.ofBool (decide (y < x)) == 1#1) = _
  by_cases h : y < x <;> simp [h]

/-- The order takes every position. -/
theorem order_surjective (s : Fin 2048 → EReal) : Function.Surjective (order s) := sortedFrom_surjective _

/-- The order takes no position twice. -/
theorem order_injective (s : Fin 2048 → EReal) : Function.Injective (order s) := sortedFrom_injective _

/-- The order is descending. -/
theorem order_anti (s : Fin 2048 → EReal) (i j : Fin 2048) (h : i ≤ j) : s (order s j) ≤ s (order s i) := by
  rcases h.lt_or_eq with h | rfl
  · have := sortedFrom_noInversion (fun k k' => Ideal.cmpTotal .gt (s k) (s k') == 1#1)
      (fun k k' => Ideal.cmpTotal .gt (s k) (s k') == 1#1)
      (fun a b hab => by rw [gt_iff] at hab ⊢; simpa using (le_of_lt (by simpa using hab)))
      (fun _ _ h => h)
      (fun a b c h₁ h₂ => by
        rw [gt_iff] at h₁ h₂ ⊢
        simp only [decide_eq_false_iff_not, not_lt] at h₁ h₂ ⊢
        exact h₁.trans h₂) i j h
    rw [gt_iff] at this
    exact not_lt.mp (of_decide_eq_false this)
  · exact le_rfl

/-- Two rows ordered alike have the same order. -/
theorem order_congr {s w : Fin 2048 → EReal} (h : ∀ i j, s i < s j ↔ w i < w j) : order s = order w := by
  refine sortedFrom_congr _ _ fun k k' _ => ?_
  rw [gt_iff, gt_iff]
  exact decide_eq_decide.mpr (h k' k)

/-- A row with the gap has real scores only. -/
theorem Gap.real {s : Fin 2048 → EReal} (h : Gap s) :
    ∃ (r : Fin 2048 → ℝ) (M m : ℝ), s = (fun j => (r j : EReal)) ∧ top s = M ∧ bot s = m := by
  unfold Gap at h
  have hpos : (0 : ℝ) < 1 / 16384 := by norm_num
  have hT : top s ≠ ⊤ := by
    intro hT
    rw [hT] at h
    by_cases hB : bot s = ⊤
    · have hall : ∀ j, s j = ⊤ := fun j => top_le_iff.mp (hB ▸ bot_le s j)
      rw [hall, hall] at h
      exact absurd h (by simp)
    · rw [EReal.top_sub hB, EReal.top_mul_coe_of_pos hpos] at h
      exact absurd h (by simp)
  have hB : bot s ≠ ⊥ := by
    intro hB
    rw [hB] at h
    by_cases hT' : top s = ⊥
    · have hall : ∀ j, s j = ⊥ := fun j => le_bot_iff.mp (hT' ▸ le_top s j)
      rw [hall, hall] at h
      exact absurd h (by simp)
    · rw [EReal.sub_bot hT', EReal.top_mul_coe_of_pos hpos] at h
      exact absurd h (by simp)
  have hs : ∀ j, s j ≠ ⊤ ∧ s j ≠ ⊥ := fun j =>
    ⟨fun e => hT (top_le_iff.mp (e ▸ le_top s j)), fun e => hB (le_bot_iff.mp (e ▸ bot_le s j))⟩
  have hT' : top s ≠ ⊥ := fun e => (hs 0).2 (le_bot_iff.mp (e ▸ le_top s 0))
  have hB' : bot s ≠ ⊤ := fun e => (hs 0).1 (top_le_iff.mp (e ▸ bot_le s 0))
  exact ⟨fun j => (s j).toReal, (top s).toReal, (bot s).toReal,
    funext fun j => (EReal.coe_toReal (hs j).1 (hs j).2).symm,
    (EReal.coe_toReal hT hT').symm, (EReal.coe_toReal hB' hB).symm⟩

/-- At least 204 scores reach `a` exactly when the 204th greatest does. -/
theorem cnt_iff (s : Fin 2048 → EReal) (a : EReal) : 204 ≤ cnt s a ↔ a ≤ s (order s 203) := by
  have hc : cnt s a = (((Finset.univ.filter fun j => a ≤ s j).card : ℕ) : EReal) := by
    unfold cnt
    rw [Finset.sum_boole]
  have h204 : (204 : EReal) = ((204 : ℕ) : EReal) := by norm_cast
  rw [hc, h204, EReal.natCast_le_iff]
  constructor
  · intro h
    by_contra hlt
    rw [not_le] at hlt
    have hsub : (Finset.univ.filter fun j => a ≤ s j) ⊆
        (Finset.univ.filter fun k : Fin 2048 => k.val < 203).image (order s) := by
      intro j hj
      obtain ⟨k, rfl⟩ := order_surjective s j
      refine Finset.mem_image_of_mem _ ?_
      simp only [Finset.mem_filter, Finset.mem_univ, true_and] at hj ⊢
      by_contra hk
      have : s (order s k) ≤ s (order s 203) := order_anti s 203 k (by
        show (203 : Fin 2048).val ≤ k.val
        have : (203 : Fin 2048).val = 203 := rfl
        omega)
      exact absurd (hj.trans this) (not_le.mpr hlt)
    have h1 := (Finset.card_le_card hsub).trans Finset.card_image_le
    have h2 : (Finset.univ.filter fun k : Fin 2048 => k.val < 203).card = 203 := by
      rw [Fin.card_filter_val_lt]; rfl
    omega
  · intro h
    have hsub : (Finset.univ.filter fun k : Fin 2048 => k.val < 204).image (order s) ⊆
        (Finset.univ.filter fun j => a ≤ s j) := by
      intro j hj
      obtain ⟨k, hk, rfl⟩ := Finset.mem_image.mp hj
      simp only [Finset.mem_filter, Finset.mem_univ, true_and] at hk ⊢
      exact h.trans (order_anti s k 203 (by
        show k.val ≤ (203 : Fin 2048).val
        have : (203 : Fin 2048).val = 203 := rfl
        omega))
    have h1 := Finset.card_le_card hsub
    rw [Finset.card_image_of_injective _ (order_injective s)] at h1
    have h2 : (Finset.univ.filter fun k : Fin 2048 => k.val < 204).card = 204 := by
      rw [Fin.card_filter_val_lt]; rfl
    omega

/-- After `n` steps from real ends around the 204th score, the ends are real, still around it, and their
    distance has been halved `n` times. -/
theorem steps (s : Fin 2048 → EReal) (κ : ℝ) (hκ : s (order s 203) = κ) (a b : ℝ) (ha : a ≤ κ) (hb : κ ≤ b) (n : ℕ) :
    ∃ a' b' : ℝ, (step s)^[n] ((a : EReal), (b : EReal)) = ((a' : EReal), (b' : EReal)) ∧ a' ≤ κ ∧ κ ≤ b' ∧
      b' - a' = (b - a) / 2 ^ n := by
  induction n with
  | zero => exact ⟨a, b, rfl, ha, hb, by simp⟩
  | succ n ih =>
    obtain ⟨a', b', he, ha', hb', hd⟩ := ih
    rw [Function.iterate_succ_apply', he]
    have hh : half ((a' : EReal), (b' : EReal)) = (((a' + b') / 2 : ℝ) : EReal) := by
      unfold half
      rw [← EReal.coe_add, ← EReal.coe_mul]
      congr 1; ring
    unfold step
    rw [hh]
    by_cases hc : (a' + b') / 2 ≤ κ
    · have : 204 ≤ cnt s (((a' + b') / 2 : ℝ) : EReal) := by
        rw [cnt_iff, hκ]; exact EReal.coe_le_coe_iff.mpr hc
      refine ⟨(a' + b') / 2, b', by simp [this], hc, hb', ?_⟩
      rw [pow_succ, ← div_div, ← hd]; ring
    · have : ¬ 204 ≤ cnt s (((a' + b') / 2 : ℝ) : EReal) := by
        rw [cnt_iff, hκ]; exact fun h => hc (EReal.coe_le_coe_iff.mp h)
      refine ⟨a', (a' + b') / 2, by simp [this], ha', (not_le.mp hc).le, ?_⟩
      rw [pow_succ, ← div_div, ← hd]; ring

/-- Under the gap, the scores that reach the threshold are the first 204 of the order. -/
theorem Gap.thr_iff {s : Fin 2048 → EReal} (h : Gap s) (j : Fin 2048) : thr s ≤ s j ↔ Kept s j := by
  obtain ⟨r, M, m, hs, hM, hm⟩ := h.real
  have hκ : s (order s 203) = (r (order s 203) : EReal) := congrFun hs _
  have h205 : s (order s 204) = (r (order s 204) : EReal) := congrFun hs _
  have hma : m ≤ r (order s 203) := by
    have := bot_le s (order s 203); rw [hm, hκ] at this; exact EReal.coe_le_coe_iff.mp this
  have hMa : r (order s 203) ≤ M := by
    have := le_top s (order s 203); rw [hM, hκ] at this; exact EReal.coe_le_coe_iff.mp this
  obtain ⟨a', b', he, ha', hb', hd⟩ := steps s _ hκ m M hma hMa 14
  have hthr : thr s = (a' : EReal) := by unfold thr; rw [hM, hm, he]
  have hg : r (order s 204) < a' := by
    unfold Gap at h
    rw [hM, hm, hκ, h205, ← EReal.coe_sub, ← EReal.coe_mul, ← EReal.coe_sub, EReal.coe_lt_coe_iff] at h
    norm_num at hd h
    linarith
  rw [hthr]
  constructor
  · intro hj
    obtain ⟨k, rfl⟩ := order_surjective s j
    by_cases hk : k.val < 204
    · exact ⟨⟨k.val, hk⟩, rfl⟩
    · exfalso
      have : s (order s k) ≤ s (order s 204) := order_anti s 204 k (by
        show (204 : Fin 2048).val ≤ k.val
        have : (204 : Fin 2048).val = 204 := rfl
        omega)
      have := hj.trans this
      rw [h205] at this
      exact absurd (EReal.coe_le_coe_iff.mp this) (not_le.mpr hg)
  · rintro ⟨k, rfl⟩
    have : s (order s 203) ≤ s (order s (k.castLE (by decide))) := order_anti s _ 203 (by
      show k.val ≤ (203 : Fin 2048).val
      have : (203 : Fin 2048).val = 203 := rfl
      omega)
    refine le_trans ?_ this
    rw [hκ]
    exact EReal.coe_le_coe_iff.mpr ha'

/-- A sum times a positive real is the sum of the products, whatever the terms. -/
theorem sum_mul_coe {ι : Type} (t : Finset ι) (f : ι → EReal) (c : ℝ) (hc : 0 ≤ c) :
    (∑ i ∈ t, f i) * (c : EReal) = ∑ i ∈ t, f i * (c : EReal) := by
  classical
  induction t using Finset.induction_on with
  | empty => simp
  | insert i t hi ih =>
    rw [Finset.sum_insert hi, Finset.sum_insert hi, ← ih]
    exact EReal.right_distrib_of_nonneg_of_ne_top (by exact_mod_cast hc) (EReal.coe_ne_top c) _ _

/-- A sum of reals, read among the extended reals. -/
theorem coe_sum {ι : Type} (t : Finset ι) (f : ι → ℝ) : ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

/-- The weights of a row of real scores are positive reals, and so is their sum. -/
theorem Gap.den_real {s : Fin 2048 → EReal} (h : Gap s) :
    ∃ (e : Fin 2048 → ℝ) (z : ℝ), (∀ j, wt s j = e j) ∧ den s = z ∧ 0 < z ∧
      (∀ i j, s i < s j ↔ e i < e j) := by
  obtain ⟨r, M, m, hs, hM, hm⟩ := h.real
  have hw : ∀ j, wt s j = (Real.exp (r j - M) : ℝ) := fun j => by
    unfold wt
    rw [hM, congrFun hs j, ← EReal.coe_sub, Ideal.exp_coe]
  refine ⟨fun j => Real.exp (r j - M), ∑ j, Real.exp (r j - M), hw, ?_, ?_, ?_⟩
  · unfold den
    rw [coe_sum]
    exact Finset.sum_congr rfl fun j _ => hw j
  · exact Finset.sum_pos (fun j _ => Real.exp_pos _) ⟨0, Finset.mem_univ _⟩
  · intro i j
    rw [congrFun hs i, congrFun hs j, EReal.coe_lt_coe_iff, Real.exp_lt_exp]
    constructor <;> intro h <;> linarith

/-- Division by a positive real is multiplication by its inverse. -/
theorem div_coe (x : EReal) (z : ℝ) (hz : 0 < z) : Ideal.div x z = x * ((z⁻¹ : ℝ) : EReal) := by
  unfold Ideal.div
  rw [if_neg (by exact_mod_cast hz.ne'), EReal.coe_inv]

/-- The softmax keeps the order of the scores. -/
theorem Gap.attn_lt {s : Fin 2048 → EReal} (h : Gap s) (i j : Fin 2048) : s i < s j ↔ attn s i < attn s j := by
  obtain ⟨e, z, hw, hz, hpos, hlt⟩ := h.den_real
  unfold attn
  rw [hlt, hz, div_coe _ _ hpos, div_coe _ _ hpos, hw, hw, ← EReal.coe_mul, ← EReal.coe_mul, EReal.coe_lt_coe_iff]
  exact (mul_lt_mul_iff_left₀ (inv_pos.mpr hpos)).symm

/-- The positions kept of the softmax are those kept of the scores. -/
theorem Gap.kept {s : Fin 2048 → EReal} (h : Gap s) (j : Fin 2048) : Kept (attn s) j ↔ Kept s j := by
  unfold Kept
  rw [order_congr h.attn_lt]

/-- Under the gap the kernel's row is the reference's. -/
theorem Gap.row {s : Fin 2048 → EReal} (h : Gap s) (v : Fin 2048 → EReal) : kernelRow s v = refRow s v := by
  obtain ⟨e, z, hw, hz, hpos, hlt⟩ := h.den_real
  unfold kernelRow refRow
  rw [hz, div_coe _ _ hpos, sum_mul_coe _ _ _ (inv_pos.mpr hpos).le]
  refine Finset.sum_congr rfl fun j _ => ?_
  by_cases hj : Kept s j
  · rw [if_pos ((h.thr_iff j).mpr hj), if_pos ((h.kept j).mpr hj)]
    unfold attn
    rw [hz, div_coe _ _ hpos, mul_assoc, mul_assoc, mul_comm (v j)]
  · rw [if_neg fun x => hj ((h.thr_iff j).mp x), if_neg fun x => hj ((h.kept j).mp x)]
    simp

end Cert.Proof.Row

end
end
-- ==== Proof.Spec.lean ====
/- The transformer block as mathematics over the extended reals, on plain indices: layer normalisation, the
   projections, the sparse attention with either way of choosing the kept scores, the residual and the feed-forward
   part. Both programs' results are read as `block`. -/
module

public import proofs.«01_k».proof.Proof.Row

@[expose] public section

noncomputable section

namespace Cert.Proof.Spec

open Idealize.ShloMosaic

/-- A row against a row. -/
def dot {n : ℕ} (a w : Fin n → EReal) : EReal := ∑ i, a i * w i

/-- The mean of a row of 1024 entries. -/
def mean (x : Fin 1024 → EReal) : EReal := Ideal.div (∑ i, x i) (Ideal.ofBits .f32 0x44800000#32)

/-- Layer normalisation of a row. -/
def ln (x g b : Fin 1024 → EReal) (j : Fin 1024) : EReal :=
  Ideal.div (x j - mean x)
    (Ideal.sqrt (mean (fun i => (x i - mean x) * (x i - mean x)) + Ideal.ofBits .f32 0x3727C5AC#32)) * g j + b j

/-- The activation. -/
def gelu (h : EReal) : EReal :=
  Ideal.ofBits .f32 0x3F000000#32 * h
    * (1 + FloatOps.erf (F := Ideal) (φ := .f32) (h * Ideal.ofBits .f32 0x3F3504F3#32))

/-- Column `d` of head `h`. -/
def col (h : Fin 16) (d : Fin 64) : Fin 1024 := ⟨64 * h.val + d.val, by omega⟩

/-- The head a column belongs to. -/
def head (i : Fin 1024) : Fin 16 := ⟨i.val / 64, by omega⟩

/-- The score of a query row against a key row, over a head's 64 columns. -/
def dotScore (q k : Fin 64 → EReal) : EReal := dot q k * Ideal.ofBits .f32 0x3E000000#32

/-- Head `h`'s scores of row `n`. -/
def scores (q k : Fin 2048 → Fin 1024 → EReal) (h : Fin 16) (n j : Fin 2048) : EReal :=
  dotScore (fun d => q n (col h d)) (fun d => k j (col h d))

/-- The attention's output at row `n`, column `i`, for a way `row` of weighting a row of values by its scores. -/
def att (row : (Fin 2048 → EReal) → (Fin 2048 → EReal) → EReal) (q k v : Fin 2048 → Fin 1024 → EReal)
    (n : Fin 2048) (i : Fin 1024) : EReal :=
  row (scores q k (head i) n) (fun j => v j i)

/-- The residual row: the input, the projected attention output and the bias. -/
def resid (x a : Fin 1024 → EReal) (wp : Fin 1024 → Fin 1024 → EReal) (bp : Fin 1024 → EReal) (j : Fin 1024) : EReal :=
  x j + dot a (wp j) + bp j

/-- The feed-forward part of a row, with its residual. -/
def ffn (y g b : Fin 1024 → EReal) (w1 : Fin 4096 → Fin 1024 → EReal) (c1 : Fin 4096 → EReal)
    (w2 : Fin 1024 → Fin 4096 → EReal) (c2 : Fin 1024 → EReal) (j : Fin 1024) : EReal :=
  y j + dot (fun m => gelu (dot (ln y g b) (w1 m) + c1 m)) (w2 j) + c2 j

/-- A projection of the normalised input. -/
def proj (x : Fin 2048 → Fin 1024 → EReal) (g b : Fin 1024 → EReal) (w : Fin 1024 → Fin 1024 → EReal)
    (n : Fin 2048) (j : Fin 1024) : EReal :=
  dot (ln (x n) g b) (w j)

/-- The whole block at row `n`, column `j`. -/
def block (row : (Fin 2048 → EReal) → (Fin 2048 → EReal) → EReal)
    (x : Fin 2048 → Fin 1024 → EReal) (g1 b1 : Fin 1024 → EReal) (wq wk wv wp : Fin 1024 → Fin 1024 → EReal)
    (bp g2 b2 : Fin 1024 → EReal) (w1 : Fin 4096 → Fin 1024 → EReal) (c1 : Fin 4096 → EReal)
    (w2 : Fin 1024 → Fin 4096 → EReal) (c2 : Fin 1024 → EReal) (n : Fin 2048) (j : Fin 1024) : EReal :=
  ffn (resid (x n) (att row (proj x g1 b1 wq) (proj x g1 b1 wk) (proj x g1 b1 wv) n) wp bp) g2 b2 w1 c1 w2 c2 j

/-- Where every row of every head has the gap, the kernel's and the reference's way of weighting give the same block. -/
theorem block_eq (x : Fin 2048 → Fin 1024 → EReal) (g1 b1 : Fin 1024 → EReal) (wq wk wv wp : Fin 1024 → Fin 1024 → EReal)
    (bp g2 b2 : Fin 1024 → EReal) (w1 : Fin 4096 → Fin 1024 → EReal) (c1 : Fin 4096 → EReal)
    (w2 : Fin 1024 → Fin 4096 → EReal) (c2 : Fin 1024 → EReal)
    (h : ∀ i n, Row.Gap (scores (proj x g1 b1 wq) (proj x g1 b1 wk) i n)) (n : Fin 2048) (j : Fin 1024) :
    block Row.kernelRow x g1 b1 wq wk wv wp bp g2 b2 w1 c1 w2 c2 n j
      = block Row.refRow x g1 b1 wq wk wv wp bp g2 b2 w1 c1 w2 c2 n j := by
  unfold block
  have : att Row.kernelRow (proj x g1 b1 wq) (proj x g1 b1 wk) (proj x g1 b1 wv) n
      = att Row.refRow (proj x g1 b1 wq) (proj x g1 b1 wk) (proj x g1 b1 wv) n := by
    funext i
    exact (h (head i) n).row _
  rw [this]

end Cert.Proof.Spec

end
end
-- ==== Proof.Qkv.lean ====
/- The first call's result array as one function of the arrays it reads, over the extended reals: the input's rows
   normalised and projected by the three weight matrices, side by side. -/
module

public import proofs.«01_k».proof.Proof.Gen.KernelIdeal.Frame
public import proofs.«01_k».proof.Proof.Spec
public import Idealize.ShloMosaic.Lib.Pointwise

@[expose] public section

set_option maxRecDepth 16384

noncomputable section

namespace Cert.Proof.Qkv

open Cert.KernelIdeal Cert.KernelIdeal.Gen Cert.Proof.Spec
open Idealize.ShloMosaic Idealize.ShloMosaic.TcCoe Idealize.ShloMosaic.Tactic Idealize.SL.Sem

/-- The two ways of writing the zero offset. -/
theorem hz : (![0, 0] : Fin 2 → Nat) = fun _ => 0 := funext fun a => by fin_cases a <;> rfl

/-- The weight rows of the three projections, one below the other. -/
def wrow (wq wk wv : Vec Ideal S1024x1024 .f32) (j : Fin 3072) (k : Fin 1024) : EReal :=
  if h : j.val < 1024 then wq (ix2 ⟨j.val, h⟩ k)
  else if h' : j.val < 2048 then wk (ix2 ⟨j.val - 1024, by omega⟩ k)
  else wv (ix2 ⟨j.val - 2048, by omega⟩ k)

/-- The normalised row `n` against the weight row `j`. -/
def G (x : Vec Ideal S2048x1024 .f32) (g b : Vec Ideal S1x1024 .f32) (wq wk wv : Vec Ideal S1024x1024 .f32) :
    Vec Ideal S2048x3072 .f32 := fun i =>
  dot (ln (fun k => x (ix2 (i 0) k)) (fun k => g (ix2 0 k)) (fun k => b (ix2 0 k))) (wrow wq wk wv (i 1))

/-- The normalisation of a block's row. -/
theorem pay2_apply (x : Vec Ideal S256x1024 .f32) (g b : Vec Ideal S1x1024 .f32) (r : Fin 256) (j : Fin 1024) :
    k0_pay2 x g b (ix2 r j) = ln (fun k => x (ix2 r k)) (fun k => g (ix2 0 k)) (fun k => b (ix2 0 k)) j := by
  unfold ln mean
  pointwise [k0_pay2]

/-- A projection of a block. -/
theorem pay1_apply (x : FVec Ideal S256x1024 .bf16) (w : Vec Ideal S1024x1024 .f32) (r : Fin 256) (j : Fin 1024) :
    k0_pay1 x w (ix2 r j) = dot (fun k => x (ix2 r k)) (fun k => w (ix2 j k)) := by
  unfold dot
  pointwise [k0_pay1]

/-- The first projection stored, the queries, is the common projection of the normalised block. -/
theorem pay3_eq (x : Vec Ideal S256x1024 .f32) (g b : Vec Ideal S1x1024 .f32) (w : Vec Ideal S1024x1024 .f32) :
    k0_pay3 x g b w = k0_pay1 (k0_pay2 x g b) w := rfl

/-- The second projection stored, the keys, is the common projection of the normalised block. -/
theorem pay4_eq (x : Vec Ideal S256x1024 .f32) (g b : Vec Ideal S1x1024 .f32) (w : Vec Ideal S1024x1024 .f32) :
    k0_pay4 x g b w = k0_pay1 (k0_pay2 x g b) w := rfl

/-- A projection of a normalised block. -/
theorem proj_apply (x : Vec Ideal S256x1024 .f32) (g b : Vec Ideal S1x1024 .f32) (w : Vec Ideal S1024x1024 .f32)
    (r : Fin 256) (j : Fin 1024) :
    k0_pay1 (k0_pay2 x g b) w (ix2 r j)
      = dot (ln (fun k => x (ix2 r k)) (fun k => g (ix2 0 k)) (fun k => b (ix2 0 k))) (fun k => w (ix2 j k)) := by
  rw [pay1_apply]
  exact congrArg (fun f => dot f _) (funext fun k => pay2_apply x g b r k)

/-- A point's output block as one function of the block index. -/
def blockG (x : Vec Ideal S256x1024 .f32) (g b : Vec Ideal S1x1024 .f32) (wq wk wv : Vec Ideal S1024x1024 .f32) :
    Vec Ideal S256x3072 .f32 := fun i =>
  dot (ln (fun k => x (ix2 (i 0) k)) (fun k => g (ix2 0 k)) (fun k => b (ix2 0 k))) (wrow wq wk wv (i 1))

/-- The block the first region stores, as a function of its six blocks. -/
theorem out_eq (x : Vec Ideal S256x1024 .f32) (g b : Vec Ideal S1x1024 .f32) (wq wk wv : Vec Ideal S1024x1024 .f32) :
    out0_6 x g b wq wk wv = blockG x g b wq wk wv := by
  funext y
  unfold out0_6
  rw [pay3_eq, pay4_eq]
  have l0 : View.ld x r0_0 = x := View.ld_unit_zero (S := S256x1024) hz _ x
  have l1 : View.ld g r0_1 = g := View.ld_unit_zero (S := S1x1024) hz _ g
  have l2 : View.ld b r0_1 = b := View.ld_unit_zero (S := S1x1024) hz _ b
  have l3 : View.ld wq r0_2 = wq := View.ld_unit_zero (S := S1024x1024) hz _ wq
  have l4 : View.ld wk r0_2 = wk := View.ld_unit_zero (S := S1024x1024) hz _ wk
  have l5 : View.ld wv r0_2 = wv := View.ld_unit_zero (S := S1024x1024) hz _ wv
  rw [l0, l1, l2, l3, l4, l5]
  refine View.canon_apply_of_pieces (blockG x g b wq wk wv) _ ?_ y (cover0_6 _ _ _ y)
  intro p hp i
  simp only [List.mem_cons, List.mem_singleton, List.not_mem_nil, or_false] at hp
  rcases hp with rfl | rfl | rfl
  · obtain ⟨r, j, rfl⟩ : ∃ (r : Fin 256) (j : Fin 1024), i = ix2 r j := ⟨i 0, i 1, by funext a; fin_cases a <;> rfl⟩
    refine (proj_apply x g b wv r j).trans ?_
    have e0 : r0_5.emb (ix2 r j) = ix2 r ⟨2048 + j.val, by omega⟩ := by
      funext a; apply Fin.ext
      match a with
      | ⟨0, _⟩ => show 0 + 1 * r.val = r.val; omega
      | ⟨1, _⟩ => show 2048 + 1 * j.val = 2048 + j.val; omega
    show _ = blockG x g b wq wk wv (r0_5.emb (ix2 r j))
    rw [e0]
    unfold blockG
    refine congrArg (dot _) (funext fun k => ?_)
    show _ = wrow wq wk wv ⟨2048 + j.val, by omega⟩ k
    unfold wrow
    rw [dif_neg (by simp; omega), dif_neg (by simp)]
    exact congrArg (fun a => wv (ix2 a k)) (Fin.ext (by simp))
  · obtain ⟨r, j, rfl⟩ : ∃ (r : Fin 256) (j : Fin 1024), i = ix2 r j := ⟨i 0, i 1, by funext a; fin_cases a <;> rfl⟩
    refine (proj_apply x g b wk r j).trans ?_
    have e0 : r0_4.emb (ix2 r j) = ix2 r ⟨1024 + j.val, by omega⟩ := by
      funext a; apply Fin.ext
      match a with
      | ⟨0, _⟩ => show 0 + 1 * r.val = r.val; omega
      | ⟨1, _⟩ => show 1024 + 1 * j.val = 1024 + j.val; omega
    show _ = blockG x g b wq wk wv (r0_4.emb (ix2 r j))
    rw [e0]
    unfold blockG
    refine congrArg (dot _) (funext fun k => ?_)
    show _ = wrow wq wk wv ⟨1024 + j.val, by omega⟩ k
    unfold wrow
    rw [dif_neg (by simp), dif_pos (by simp; omega)]
    exact congrArg (fun a => wk (ix2 a k)) (Fin.ext (by simp))
  · obtain ⟨r, j, rfl⟩ : ∃ (r : Fin 256) (j : Fin 1024), i = ix2 r j := ⟨i 0, i 1, by funext a; fin_cases a <;> rfl⟩
    refine (proj_apply x g b wq r j).trans ?_
    have e0 : r0_3.emb (ix2 r j) = ix2 r ⟨j.val, by omega⟩ := by
      funext a; apply Fin.ext
      match a with
      | ⟨0, _⟩ => show 0 + 1 * r.val = r.val; omega
      | ⟨1, _⟩ => show 0 + 1 * j.val = j.val; omega
    show _ = blockG x g b wq wk wv (r0_3.emb (ix2 r j))
    rw [e0]
    unfold blockG
    refine congrArg (dot _) (funext fun k => ?_)
    show _ = wrow wq wk wv ⟨j.val, by omega⟩ k
    unfold wrow
    rw [dif_pos j.isLt]

variable (V : (c : Dev nD) → (b : Ref sig .tc) → Buf (Elt Ideal) ((c : Thread nD τ).loc b))

/-- Which block of the input a grid point of the first region reads. -/
theorem idx0 : ∀ t : Fin cfg0.N, win0_0.index t (0 : Fin 2) = t.val ∧ win0_0.index t (1 : Fin 2) = 0 :=
  (by decide +kernel : ∀ t : Fin grid0.N, _)

/-- Which block of the normalisation's scale a grid point of the first region reads. -/
theorem idx1 : ∀ t : Fin cfg0.N, win0_1.index t (0 : Fin 2) = 0 ∧ win0_1.index t (1 : Fin 2) = 0 :=
  (by decide +kernel : ∀ t : Fin grid0.N, _)

/-- Which block of the normalisation's shift a grid point of the first region reads. -/
theorem idx2 : ∀ t : Fin cfg0.N, win0_2.index t (0 : Fin 2) = 0 ∧ win0_2.index t (1 : Fin 2) = 0 :=
  (by decide +kernel : ∀ t : Fin grid0.N, _)

/-- Which block of the query weight a grid point of the first region reads. -/
theorem idx3 : ∀ t : Fin cfg0.N, win0_3.index t (0 : Fin 2) = 0 ∧ win0_3.index t (1 : Fin 2) = 0 :=
  (by decide +kernel : ∀ t : Fin grid0.N, _)

/-- Which block of the key weight a grid point of the first region reads. -/
theorem idx4 : ∀ t : Fin cfg0.N, win0_4.index t (0 : Fin 2) = 0 ∧ win0_4.index t (1 : Fin 2) = 0 :=
  (by decide +kernel : ∀ t : Fin grid0.N, _)

/-- Which block of the value weight a grid point of the first region reads. -/
theorem idx5 : ∀ t : Fin cfg0.N, win0_5.index t (0 : Fin 2) = 0 ∧ win0_5.index t (1 : Fin 2) = 0 :=
  (by decide +kernel : ∀ t : Fin grid0.N, _)

/-- Which block of the three projections a grid point of the first region writes. -/
theorem idx6 : ∀ t : Fin cfg0.N, win0_6.index t (0 : Fin 2) = t.val ∧ win0_6.index t (1 : Fin 2) = 0 :=
  (by decide +kernel : ∀ t : Fin grid0.N, _)

/-- The input block at point `t` is 256 rows of the input. -/
theorem blk0 (c : Dev nD) (t : Fin cfg0.N) (r : Fin 256) (k : Fin 1024) (h : t.val * 256 + r.val < 2048) :
    iblk0 V c 0 t (ix2 r k) = (V c main_v0 : Vec Ideal S2048x1024 .f32) (ix2 ⟨t.val * 256 + r.val, h⟩ k) := by
  obtain ⟨e0, e1⟩ := idx0 t
  refine congrArg (V c main_v0 : Vec Ideal S2048x1024 .f32) ?_
  funext a; apply Fin.ext
  match a with
  | ⟨0, _⟩ => show win0_0.index t (0 : Fin 2) * 256 + 1 * r.val = t.val * 256 + r.val; omega
  | ⟨1, _⟩ => show win0_0.index t (1 : Fin 2) * 1024 + 1 * k.val = k.val; omega

/-- Every grid point of the first region reads the normalisation's scale whole. -/
theorem blk1 (c : Dev nD) (t : Fin cfg0.N) : iblk0 V c 1 t = (V c main_v1 : Vec Ideal S1x1024 .f32) := by
  obtain ⟨e0, e1⟩ := idx1 t
  funext j
  refine congrArg (V c main_v1 : Vec Ideal S1x1024 .f32) ?_
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega

/-- Every grid point of the first region reads the normalisation's shift whole. -/
theorem blk2 (c : Dev nD) (t : Fin cfg0.N) : iblk0 V c 2 t = (V c main_v2 : Vec Ideal S1x1024 .f32) := by
  obtain ⟨e0, e1⟩ := idx2 t
  funext j
  refine congrArg (V c main_v2 : Vec Ideal S1x1024 .f32) ?_
  funext a; apply Fin.ext
  match a with
  | ⟨0, _⟩ => show win0_2.index t (0 : Fin 2) * 1 + 1 * (j 0).val = (j 0).val; omega
  | ⟨1, _⟩ => show win0_2.index t (1 : Fin 2) * 1024 + 1 * (j 1).val = (j 1).val; omega

/-- Every grid point of the first region reads the query weight whole. -/
theorem blk3 (c : Dev nD) (t : Fin cfg0.N) : iblk0 V c 3 t = (V c main_arg3 : Vec Ideal S1024x1024 .f32) := by
  obtain ⟨e0, e1⟩ := idx3 t
  funext j
  refine congrArg (V c main_arg3 : Vec Ideal S1024x1024 .f32) ?_
  funext a; apply Fin.ext
  match a with
  | ⟨0, _⟩ => show win0_3.index t (0 : Fin 2) * 1024 + 1 * (j 0).val = (j 0).val; omega
  | ⟨1, _⟩ => show win0_3.index t (1 : Fin 2) * 1024 + 1 * (j 1).val = (j 1).val; omega

/-- Every grid point of the first region reads the key weight whole. -/
theorem blk4 (c : Dev nD) (t : Fin cfg0.N) : iblk0 V c 4 t = (V c main_arg4 : Vec Ideal S1024x1024 .f32) := by
  obtain ⟨e0, e1⟩ := idx4 t
  funext j
  refine congrArg (V c main_arg4 : Vec Ideal S1024x1024 .f32) ?_
  funext a; apply Fin.ext
  match a with
  | ⟨0, _⟩ => show win0_4.index t (0 : Fin 2) * 1024 + 1 * (j 0).val = (j 0).val; omega
  | ⟨1, _⟩ => show win0_4.index t (1 : Fin 2) * 1024 + 1 * (j 1).val = (j 1).val; omega

/-- Every grid point of the first region reads the value weight whole. -/
theorem blk5 (c : Dev nD) (t : Fin cfg0.N) : iblk0 V c 5 t = (V c main_arg5 : Vec Ideal S1024x1024 .f32) := by
  obtain ⟨e0, e1⟩ := idx5 t
  funext j
  refine congrArg (V c main_arg5 : Vec Ideal S1024x1024 .f32) ?_
  funext a; apply Fin.ext
  match a with
  | ⟨0, _⟩ => show win0_5.index t (0 : Fin 2) * 1024 + 1 * (j 0).val = (j 0).val; omega
  | ⟨1, _⟩ => show win0_5.index t (1 : Fin 2) * 1024 + 1 * (j 1).val = (j 1).val; omega

/-- The first region has 8 grid points. -/
theorem N0 : cfg0.N = 8 := N_0

/-- Where the output block's index lies in the result array. -/
theorem emb6 (t : Fin cfg0.N) (r : Fin 256) (j : Fin 3072) (h : t.val * 256 + r.val < 2048) :
    ((cfg0.win 6).blk t).view.emb (ix2 r j : S256x3072.Idx) = (ix2 ⟨t.val * 256 + r.val, h⟩ j : S2048x3072.Idx) := by
  obtain ⟨e0, e1⟩ := idx6 t
  funext a; apply Fin.ext
  match a with
  | ⟨0, _⟩ => show win0_6.index t (0 : Fin 2) * 256 + 1 * r.val = t.val * 256 + r.val; omega
  | ⟨1, _⟩ => show win0_6.index t (1 : Fin 2) * 3072 + 1 * j.val = j.val; omega

/-- What a point writes back is its block of `G`. -/
theorem flushed_eq (c : Dev nD) (t : Fin cfg0.N) :
    (dat0 V c).flushed 6 t = ((cfg0.win 6).blk t).view.read (Elt Ideal)
      (G (V c main_v0) (V c main_v1) (V c main_v2) (V c main_arg3) (V c main_arg4) (V c main_arg5)) := by
  funext y
  obtain ⟨r, j, rfl⟩ : ∃ (r : Fin 256) (j : Fin 3072), y = (ix2 r j : S256x3072.Idx) := ⟨y 0, y 1, by funext a; fin_cases a <;> rfl⟩
  have hN := N0
  have h : t.val * 256 + r.val < 2048 := by omega
  show (dat0 V c).after 6 t (ix2 r j) = G (V c main_v0) (V c main_v1) (V c main_v2) (V c main_arg3) (V c main_arg4) (V c main_arg5)
    (((cfg0.win 6).blk t).view.emb (ix2 r j : S256x3072.Idx))
  rw [after0_6, emb6 t r j h, out_eq, blk1, blk2, blk3, blk4, blk5]
  unfold blockG G
  refine congrArg (fun f => dot (ln f _ _) _) (funext fun k => ?_)
  exact blk0 V c t r k h

/-- Every index of the result array is in some point's block. -/
theorem covered (i : S2048x3072.Idx) :
    ∃ t : Fin cfg0.N, (cfg0.win 6).flush t = true ∧ i ∈ ((cfg0.win 6).blk t).view.set := by
  have hN := N0
  have hi : (i 0).val < 2048 := (i 0).isLt
  let t : Fin cfg0.N := ⟨(i 0).val / 256, by omega⟩
  let r : Fin 256 := ⟨(i 0).val % 256, by omega⟩
  refine ⟨t, flush0_6 t, ?_⟩
  have h := ((cfg0.win 6).blk t).view.emb_mem_set (ix2 r (i 1) : S256x3072.Idx)
  rw [emb6 t r (i 1) (by show (i 0).val / 256 * 256 + (i 0).val % 256 < 2048; omega)] at h
  have e : (ix2 ⟨t.val * 256 + r.val, by show (i 0).val / 256 * 256 + (i 0).val % 256 < 2048; omega⟩ (i 1) : S2048x3072.Idx) = i := by
    funext a; apply Fin.ext
    match a with
    | ⟨0, _⟩ => show (i 0).val / 256 * 256 + (i 0).val % 256 = (i 0).val; omega
    | ⟨1, _⟩ => rfl
  rwa [e] at h

/-- The result array after the call. -/
theorem final (c : Dev nD) : (dat0 V c).arrAt 6 cfg0.N
    = G (V c main_v0) (V c main_v1) (V c main_v2) (V c main_arg3) (V c main_arg4) (V c main_arg5) :=
  (dat0 V c).arrAt_eq_of_cover 6 _ (fun t _ => flushed_eq V c t) covered

end Cert.Proof.Qkv

end
end
-- ==== Proof.Attn.lean ====
/- The attention region's body, as one function of a head's three blocks: the scores, fourteen equal steps of the
   threshold search, and the weighted sum of the values. The two heads a grid point computes are both this function. -/
module

public import proofs.«01_k».proof.Proof.Gen.KernelIdeal.Frame

@[expose] public section

set_option maxRecDepth 16384

noncomputable section

namespace Cert.Proof.Attn

open Cert.KernelIdeal Cert.KernelIdeal.Gen
open Idealize.ShloMosaic Idealize.ShloMosaic.TcCoe Idealize.ShloMosaic.Tactic

variable {F : FTy → Type} [FloatOps F]

/-- The middle of every row's interval. -/
def vmid (p : FVec F S256x1 .f32 × FVec F S256x1 .f32) : FVec F S256x1 .f32 :=
  mulf (broadcast S256x1 (Scalar.ofBits .f32 0x3F000000#32)) (addf p.1 p.2)

/-- Which scores reach their row's value. -/
def vmask (s : FVec F S256x2048 .f32) (x : FVec F S256x1 .f32) : IVec S256x2048 1 :=
  cmpf .oge s (broadcastTo S256x2048 x broadcasts_S256x1_S256x2048)

/-- One where the mask is set, zero elsewhere. -/
def vones (k : IVec S256x2048 1) : FVec F S256x2048 .f32 :=
  select k (broadcast S256x2048 (Scalar.ofBits .f32 0x3F800000#32)) (broadcast S256x2048 (Scalar.ofBits .f32 0x00000000#32))

/-- The sum of every row. -/
def vsum (x : FVec F S256x2048 .f32) : FVec F S256x1 .f32 :=
  shapeCast S256x1 (multiReduction .add [1] S256 x 0x00000000#32 reduces_S256x2048_S256 (.inl rfl) rfl) shapeCasts_S256_S256x1

/-- Whether a row's count is at least 204. -/
def venough (n : FVec F S256x1 .f32) : IVec S256x1 1 :=
  cmpf .oge n (broadcast S256x1 (Scalar.ofBits .f32 0x434C0000#32))

/-- Whether at least 204 scores of a row reach its interval's middle. -/
def vge (s : FVec F S256x2048 .f32) (p : FVec F S256x1 .f32 × FVec F S256x1 .f32) : IVec S256x1 1 :=
  venough (vsum (vones (F := F) (vmask s (vmid p))))

/-- One step of the search in every row. -/
def vstep (s : FVec F S256x2048 .f32) (p : FVec F S256x1 .f32 × FVec F S256x1 .f32) :
    FVec F S256x1 .f32 × FVec F S256x1 .f32 :=
  (select (vge s p) (vmid p) p.1, select (vge s p) p.2 (vmid p))

/-- The interval before the search. -/
def vinit (s : FVec F S256x2048 .f32) : FVec F S256x1 .f32 × FVec F S256x1 .f32 :=
  (shapeCast S256x1 (multiReduction .minimumf [1] S256 s 0x7F800000#32 reduces_S256x2048_S256 (.inl rfl) rfl) shapeCasts_S256_S256x1,
   shapeCast S256x1 (multiReduction .maximumf [1] S256 s 0xFF800000#32 reduces_S256x2048_S256 (.inl rfl) rfl) shapeCasts_S256_S256x1)

/-- The weights before normalisation. -/
def vexp (s : FVec F S256x2048 .f32) : FVec F S256x2048 .f32 :=
  exp (subf s (broadcastTo S256x2048 (vinit s).2 broadcasts_S256x1_S256x2048))

/-- A head's output from the mask of its kept scores. -/
def vout (s : FVec F S256x2048 .f32) (k : IVec S256x2048 1) (v : FVec F S2048x64 .f32) : FVec F S256x64 .f32 :=
  k1_pay54 v (vexp s) (vsum (vexp s)) k

/-- A head's output block. -/
def headOut (q : Vec F S256x64 .f32) (k v : Vec F S2048x64 .f32) : FVec F S256x64 .f32 :=
  vout (k1_pay3 q k) (vmask (k1_pay3 q k) ((vstep (k1_pay3 q k))^[14] (vinit (k1_pay3 q k))).1) (k1_pay2 v)

section First

variable (q : Vec F S256x64 .f32) (k : Vec F S2048x64 .f32)

/-- First head: the rows' greatest scores. -/
theorem pay4_eq : k1_pay4 q k = (vinit (k1_pay3 q k)).2 := by unfold k1_pay4 vinit; dsimp only

/-- First head: the rows' least scores. -/
theorem pay7_eq : k1_pay7 q k = (vinit (k1_pay3 q k)).1 := by unfold k1_pay7 vinit; dsimp only

/-- First head: the weights before normalisation. -/
theorem pay5_eq : k1_pay5 q k = vexp (k1_pay3 q k) := by unfold k1_pay5 vexp; rw [pay4_eq]

/-- First head: the sums of the weights. -/
theorem pay6_eq : k1_pay6 q k = vsum (vexp (k1_pay3 q k)) := by unfold k1_pay6 vsum; rw [pay5_eq]

/-- First head: the middles of the starting intervals. -/
theorem pay8_eq : k1_pay8 q k = vmid (vinit (k1_pay3 q k)) := by unfold k1_pay8 vmid; rw [pay4_eq, pay7_eq]

/-- First head: the test at the first middles. -/
theorem pay9_eq : k1_pay9 q k = vge (k1_pay3 q k) (vinit (k1_pay3 q k)) := by unfold k1_pay9 vge venough vsum vones vmask; rw [pay8_eq]

/-- First head: the lower ends after one step. -/
theorem pay10_eq : k1_pay10 q k = (vstep (k1_pay3 q k) (vinit (k1_pay3 q k))).1 := by unfold k1_pay10 vstep; rw [pay7_eq, pay8_eq, pay9_eq]

/-- First head: the upper ends after one step. -/
theorem pay11_eq : k1_pay11 q k = (vstep (k1_pay3 q k) (vinit (k1_pay3 q k))).2 := by unfold k1_pay11 vstep; rw [pay4_eq, pay8_eq, pay9_eq]

/-- First head: the middles after one step. -/
theorem pay12_eq : k1_pay12 q k = vmid (vstep (k1_pay3 q k) (vinit (k1_pay3 q k))) := by unfold k1_pay12 vmid; rw [pay10_eq, pay11_eq]

/-- First head: the mask at the middles after one step. -/
theorem pay13_eq : k1_pay13 q k = vmask (k1_pay3 q k) (vmid (vstep (k1_pay3 q k) (vinit (k1_pay3 q k)))) := by unfold k1_pay13 vmask; rw [pay12_eq]

variable (s : FVec F S256x2048 .f32) (p : FVec F S256x1 .f32 × FVec F S256x1 .f32)

/-- First head: the lower ends after three more steps. -/
theorem pay23_eq : k1_pay23 s p.1 p.2 (vmid p) (vmask s (vmid p)) (Scalar.ofBits .f32 0x3F800000#32) (Scalar.ofBits .f32 0x00000000#32) = (vstep s (vstep s (vstep s p))).1 := by rfl

/-- First head: the upper ends after three more steps. -/
theorem pay24_eq : k1_pay24 s p.1 p.2 (vmid p) (vmask s (vmid p)) (Scalar.ofBits .f32 0x3F800000#32) (Scalar.ofBits .f32 0x00000000#32) = (vstep s (vstep s (vstep s p))).2 := by rfl

/-- First head: the middles after three more steps. -/
theorem pay25_eq : k1_pay25 s p.1 p.2 (vmid p) (vmask s (vmid p)) (Scalar.ofBits .f32 0x3F800000#32) (Scalar.ofBits .f32 0x00000000#32) = vmid (vstep s (vstep s (vstep s p))) := by rfl

/-- First head: the counted entries at the middles after three more steps. -/
theorem pay26_eq : k1_pay26 s p.1 p.2 (vmid p) (vmask s (vmid p)) (Scalar.ofBits .f32 0x3F800000#32) (Scalar.ofBits .f32 0x00000000#32)
    = vones (vmask s (vmid (vstep s (vstep s (vstep s p))))) := by rfl

/-- First head: the lower ends after three more steps. -/
theorem pay36_eq : k1_pay36 s p.1 p.2 (vmid p) (vones (vmask s (vmid p))) = (vstep s (vstep s (vstep s p))).1 := by rfl

/-- First head: the upper ends after three more steps. -/
theorem pay37_eq : k1_pay37 s p.1 p.2 (vmid p) (vones (vmask s (vmid p))) = (vstep s (vstep s (vstep s p))).2 := by rfl

/-- First head: the middles after three more steps. -/
theorem pay38_eq : k1_pay38 s p.1 p.2 (vmid p) (vones (vmask s (vmid p))) = vmid (vstep s (vstep s (vstep s p))) := by rfl

/-- First head: the counts at the middles after three more steps. -/
theorem pay39_eq : k1_pay39 s p.1 p.2 (vmid p) (vones (vmask s (vmid p)))
    = vsum (vones (vmask s (vmid (vstep s (vstep s (vstep s p)))))) := by rfl

/-- First head: the lower ends after three more steps. -/
theorem pay49_eq : k1_pay49 s p.1 p.2 (vmid p) (vsum (vones (vmask s (vmid p)))) = (vstep s (vstep s (vstep s p))).1 := by rfl

/-- First head: the upper ends after three more steps. -/
theorem pay50_eq : k1_pay50 s p.1 p.2 (vmid p) (vsum (vones (vmask s (vmid p)))) = (vstep s (vstep s (vstep s p))).2 := by rfl

/-- First head: the middles after three more steps. -/
theorem pay51_eq : k1_pay51 s p.1 p.2 (vmid p) (vsum (vones (vmask s (vmid p)))) = vmid (vstep s (vstep s (vstep s p))) := by rfl

/-- First head: the test at the middles after three more steps. -/
theorem pay52_eq : k1_pay52 s p.1 p.2 (vmid p) (vsum (vones (vmask s (vmid p)))) = vge s (vstep s (vstep s (vstep s p))) := by rfl

/-- First head: the final mask, after the last four steps. -/
theorem pay53_eq : k1_pay53 s p.1 p.2 (vmid p) (vge s p) = vmask s (vstep s (vstep s (vstep s (vstep s p)))).1 := by rfl

end First

/-- The first head's store is the head's output. -/
theorem first_eq (x0 : Vec F S256x128 .f32) (x1 x2 : Vec F S2048x128 .f32) :
    k1_pay54 (k1_pay2 (View.ld x2 r1_1)) (k1_pay5 (View.ld x0 r1_0) (View.ld x1 r1_1)) (k1_pay6 (View.ld x0 r1_0) (View.ld x1 r1_1))
      (k1_pay53 (k1_pay120 x0 x1 x2)
        (k1_pay49 (k1_pay120 x0 x1 x2) (k1_pay129 x0 x1 x2) (k1_pay130 x0 x1 x2) (k1_pay131 x0 x1 x2) (k1_pay132 x0 x1 x2))
        (k1_pay50 (k1_pay120 x0 x1 x2) (k1_pay129 x0 x1 x2) (k1_pay130 x0 x1 x2) (k1_pay131 x0 x1 x2) (k1_pay132 x0 x1 x2))
        (k1_pay51 (k1_pay120 x0 x1 x2) (k1_pay129 x0 x1 x2) (k1_pay130 x0 x1 x2) (k1_pay131 x0 x1 x2) (k1_pay132 x0 x1 x2))
        (k1_pay52 (k1_pay120 x0 x1 x2) (k1_pay129 x0 x1 x2) (k1_pay130 x0 x1 x2) (k1_pay131 x0 x1 x2) (k1_pay132 x0 x1 x2)))
    = headOut (View.ld x0 r1_0) (View.ld x1 r1_1) (View.ld x2 r1_1) := by
  unfold k1_pay129 k1_pay130 k1_pay131 k1_pay132 k1_pay128 k1_pay127 k1_pay126 k1_pay125 k1_pay124 k1_pay123 k1_pay122 k1_pay121 k1_pay120
  generalize View.ld x0 r1_0 = q
  generalize View.ld x1 r1_1 = k
  generalize View.ld x2 r1_1 = v
  simp only [pay5_eq, pay6_eq, pay10_eq, pay11_eq, pay12_eq, pay13_eq, pay23_eq, pay24_eq, pay25_eq, pay26_eq, pay36_eq, pay37_eq, pay38_eq,
    pay39_eq, pay49_eq, pay50_eq, pay51_eq, pay52_eq, pay53_eq]
  rfl

section Second

variable (q : Vec F S256x64 .f32) (k : Vec F S2048x64 .f32)

/-- Second head: the scores. -/
theorem pay56_eq : k1_pay56 q k = k1_pay3 q k := by rfl

/-- Second head: the rows' greatest scores. -/
theorem pay57_eq : k1_pay57 q k = (vinit (k1_pay3 q k)).2 := by unfold k1_pay57 vinit; rw [pay56_eq]

/-- Second head: the weights before normalisation. -/
theorem pay58_eq : k1_pay58 q k = vexp (k1_pay3 q k) := by unfold k1_pay58 vexp; rw [pay56_eq, pay57_eq]

/-- Second head: the sums of the weights. -/
theorem pay59_eq : k1_pay59 q k = vsum (vexp (k1_pay3 q k)) := by unfold k1_pay59 vsum; rw [pay58_eq]

/-- Second head: the rows' least scores. -/
theorem pay60_eq : k1_pay60 q k = (vinit (k1_pay3 q k)).1 := by unfold k1_pay60 vinit; rw [pay56_eq]

/-- Second head: the middles of the starting intervals. -/
theorem pay61_eq : k1_pay61 q k = vmid (vinit (k1_pay3 q k)) := by unfold k1_pay61 vmid; rw [pay57_eq, pay60_eq]

/-- Second head: the counts at the first middles. -/
theorem pay62_eq : k1_pay62 q k = vsum (vones (vmask (k1_pay3 q k) (vmid (vinit (k1_pay3 q k))))) := by unfold k1_pay62 vsum vones vmask; rw [pay61_eq, pay56_eq]

variable (s : FVec F S256x2048 .f32) (p : FVec F S256x1 .f32 × FVec F S256x1 .f32)

/-- Second head: the lower ends after four steps. -/
theorem pay77_eq : k1_pay77 s p.2 p.1 (vmid p) (vsum (vones (vmask s (vmid p)))) k1_pay63 = (vstep s (vstep s (vstep s (vstep s p)))).1 := by rfl

/-- Second head: the upper ends after four steps. -/
theorem pay78_eq : k1_pay78 s p.2 p.1 (vmid p) (vsum (vones (vmask s (vmid p)))) k1_pay63 = (vstep s (vstep s (vstep s (vstep s p)))).2 := by rfl

/-- Second head: the lower ends after three more steps. -/
theorem pay89_eq : k1_pay89 s p.1 p.2 = (vstep s (vstep s (vstep s p))).1 := by rfl

/-- Second head: the upper ends after three more steps. -/
theorem pay90_eq : k1_pay90 s p.1 p.2 = (vstep s (vstep s (vstep s p))).2 := by rfl

/-- Second head: the sums of the interval's ends after three more steps. -/
theorem pay91_eq : k1_pay91 s p.1 p.2 = addf (vstep s (vstep s (vstep s p))).1 (vstep s (vstep s (vstep s p))).2 := by rfl

/-- Second head: the lower ends after three more steps. -/
theorem pay103_eq : k1_pay103 s p.1 p.2 (addf p.1 p.2) k1_pay92 = (vstep s (vstep s (vstep s p))).1 := by rfl

/-- Second head: the upper ends after three more steps. -/
theorem pay104_eq : k1_pay104 s p.1 p.2 (addf p.1 p.2) k1_pay92 = (vstep s (vstep s (vstep s p))).2 := by rfl

/-- Second head: the middles after three more steps. -/
theorem pay105_eq : k1_pay105 s p.1 p.2 (addf p.1 p.2) k1_pay92 = vmid (vstep s (vstep s (vstep s p))) := by rfl

/-- Second head: the mask at the middles after three more steps. -/
theorem pay106_eq : k1_pay106 s p.1 p.2 (addf p.1 p.2) k1_pay92 = vmask s (vmid (vstep s (vstep s (vstep s p)))) := by rfl

/-- Second head: the lower ends after three more steps. -/
theorem pay116_eq : k1_pay116 s p.1 p.2 (vmid p) (vmask s (vmid p)) = (vstep s (vstep s (vstep s p))).1 := by rfl

/-- Second head: the middles after three more steps. -/
theorem pay117_eq : k1_pay117 s p.1 p.2 (vmid p) (vmask s (vmid p)) = vmid (vstep s (vstep s (vstep s p))) := by rfl

/-- Second head: the mask at the middles after three more steps. -/
theorem pay118_eq : k1_pay118 s p.1 p.2 (vmid p) (vmask s (vmid p)) = vmask s (vmid (vstep s (vstep s (vstep s p)))) := by rfl

/-- Second head: the block's output after the last step. -/
theorem pay1_eq (v : FVec F S2048x64 .f32) : k1_pay1 v s (vexp s) (vsum (vexp s)) p.1 (vmid p) (vmask s (vmid p))
    (Scalar.ofBits .f32 0x00000000#32) k1_pay119 = vout s (vmask s (vstep s p).1) v := by rfl

end Second

/-- The second head's store is the head's output. -/
theorem second_eq (x0 : Vec F S256x128 .f32) (x1 x2 : Vec F S2048x128 .f32) :
    k1_pay1 (k1_pay55 (View.ld x2 r1_3)) (k1_pay133 x0 x1 x2) (k1_pay58 (View.ld x0 r1_2) (View.ld x1 r1_3)) (k1_pay59 (View.ld x0 r1_2) (View.ld x1 r1_3))
      (k1_pay116 (k1_pay133 x0 x1 x2) (k1_pay145 x0 x1 x2) (k1_pay146 x0 x1 x2) (k1_pay147 x0 x1 x2) (k1_pay148 x0 x1 x2))
      (k1_pay117 (k1_pay133 x0 x1 x2) (k1_pay145 x0 x1 x2) (k1_pay146 x0 x1 x2) (k1_pay147 x0 x1 x2) (k1_pay148 x0 x1 x2))
      (k1_pay118 (k1_pay133 x0 x1 x2) (k1_pay145 x0 x1 x2) (k1_pay146 x0 x1 x2) (k1_pay147 x0 x1 x2) (k1_pay148 x0 x1 x2))
      (Scalar.ofBits .f32 0x00000000#32) (k1_pay119 (F := F))
    = headOut (View.ld x0 r1_2) (View.ld x1 r1_3) (View.ld x2 r1_3) := by
  unfold k1_pay148 k1_pay147 k1_pay146 k1_pay145 k1_pay144 k1_pay143 k1_pay142 k1_pay141 k1_pay140 k1_pay139 k1_pay138 k1_pay137 k1_pay136 k1_pay135 k1_pay134 k1_pay133
  generalize View.ld x0 r1_2 = q
  generalize View.ld x1 r1_3 = k
  generalize View.ld x2 r1_3 = v
  simp only [pay56_eq, pay57_eq, pay58_eq, pay59_eq, pay60_eq, pay61_eq, pay62_eq, pay77_eq, pay78_eq, pay89_eq, pay90_eq,
    pay91_eq, pay103_eq, pay104_eq, pay105_eq, pay106_eq, pay116_eq, pay117_eq, pay118_eq, pay1_eq]
  rfl

/-- A grid point's output block: the second head in columns 64 to 127, the first in columns 0 to 63. -/
theorem out_eq (x0 : Vec F S256x128 .f32) (x1 x2 : Vec F S2048x128 .f32) :
    out1_3 x0 x1 x2 = View.canon [⟨r1_2, headOut (View.ld x0 r1_2) (View.ld x1 r1_3) (View.ld x2 r1_3)⟩,
      ⟨r1_0, headOut (View.ld x0 r1_0) (View.ld x1 r1_1) (View.ld x2 r1_1)⟩] := by
  unfold out1_3
  rw [first_eq, second_eq]

end Cert.Proof.Attn

end
end
-- ==== Proof.Consts.lean ====
/- The values of the float literals that the proof needs. -/
module

public import Idealize.ShloMosaic.PureOps.Ideal.Laws

@[expose] public section

noncomputable section

namespace Cert.Proof.Consts

open Idealize.ShloMosaic

/-- The literal for one half. -/
theorem half_val : Ideal.ofBits .f32 0x3F000000#32 = ((1 / 2 : ℝ) : EReal) := by
  simp [Ideal.ofBits, Ideal.ieee, -EReal.coe_mul]; norm_num

/-- The literal for 204. -/
theorem n204_val : Ideal.ofBits .f32 0x434C0000#32 = (204 : EReal) := by
  have : Ideal.ofBits .f32 0x434C0000#32 = ((204 : ℝ) : EReal) := by
    simp [Ideal.ofBits, Ideal.ieee, -EReal.coe_mul]; norm_num
  rw [this]; norm_cast

/-- The literal for two to the power minus fourteen. -/
theorem width_val : Ideal.ofBits .f32 0x38800000#32 = ((1 / 16384 : ℝ) : EReal) := by
  simp [Ideal.ofBits, Ideal.ieee, -EReal.coe_mul]; norm_num

/-- The literal for minus infinity. -/
theorem ninf_val : Ideal.ofBits .f32 0xFF800000#32 = (⊥ : EReal) := by
  simp [Ideal.ofBits, Ideal.ieee, -EReal.coe_mul]

/-- The literal for plus infinity. -/
theorem pinf_val : Ideal.ofBits .f32 0x7F800000#32 = (⊤ : EReal) := by
  simp [Ideal.ofBits, Ideal.ieee, -EReal.coe_mul]

end Cert.Proof.Consts

end
end
-- ==== Proof.AttnValue.lean ====
/- A head's output block read at an index over the extended reals: one row of the sparse attention as
   `Row.kernelRow` states it. -/
module

public import proofs.«01_k».proof.Proof.Attn
public import proofs.«01_k».proof.Proof.Spec
public import proofs.«01_k».proof.Proof.Consts
public import Idealize.ShloMosaic.Lib.Pointwise

@[expose] public section

set_option maxRecDepth 16384

noncomputable section

namespace Cert.Proof.Attn

open Cert.KernelIdeal Cert.KernelIdeal.Gen
open Cert.Proof.Spec (dot dotScore)
open Idealize.ShloMosaic Idealize.ShloMosaic.TcCoe Idealize.ShloMosaic.Tactic

/-- The scores of a block. -/
theorem score_apply (q : Vec Ideal S256x64 .f32) (k : Vec Ideal S2048x64 .f32) (r : Fin 256) (j : Fin 2048) :
    k1_pay3 q k (ix2 r j) = dotScore (fun d => q (ix2 r d)) (fun d => k (ix2 j d)) := by
  unfold dotScore dot
  pointwise [k1_pay3]

/-- The search starts from the row's least and greatest score. -/
theorem vinit_apply (s : FVec Ideal S256x2048 .f32) (r : Fin 256) :
    (vinit s).1 (ix2 r 0) = Row.bot (fun j => s (ix2 r j)) ∧ (vinit s).2 (ix2 r 0) = Row.top (fun j => s (ix2 r j)) := by
  constructor
  · pointwise [vinit]
    rw [Consts.pinf_val]; rfl
  · pointwise [vinit]
    rw [Consts.ninf_val]; rfl

/-- A row's sum. -/
theorem vsum_apply (s : FVec Ideal S256x2048 .f32) (r : Fin 256) :
    (vsum s) (ix2 r 0) = ∑ j, s (ix2 r j) := by
  pointwise [vsum]

/-- The weights of a row. -/
theorem vexp_apply (s : FVec Ideal S256x2048 .f32) (r : Fin 256) (j : Fin 2048) :
    (vexp s) (ix2 r j) = Row.wt (fun j => s (ix2 r j)) j := by
  have h := (vinit_apply s r).2
  unfold vexp Row.wt
  rw [← h]
  generalize vinit s = p
  pointwise

/-- One step of the search in a row. -/
theorem vstep_apply (s : FVec Ideal S256x2048 .f32) (p : FVec Ideal S256x1 .f32 × FVec Ideal S256x1 .f32) (r : Fin 256) :
    ((vstep s p).1 (ix2 r 0), (vstep s p).2 (ix2 r 0))
      = Row.step (fun j => s (ix2 r j)) (p.1 (ix2 r 0), p.2 (ix2 r 0)) := by
  unfold Row.step Row.half Row.cnt
  rw [← Consts.half_val, ← Consts.n204_val]
  refine Prod.ext ?_ ?_
  · dsimp only
    pointwise [vstep, vmid, vge, venough, vsum, vones, vmask]
  · dsimp only
    pointwise [vstep, vmid, vge, venough, vsum, vones, vmask]

/-- Any number of steps of the search in a row. -/
theorem vsteps_apply (s : FVec Ideal S256x2048 .f32) (p : FVec Ideal S256x1 .f32 × FVec Ideal S256x1 .f32) (r : Fin 256) (n : ℕ) :
    (((vstep s)^[n] p).1 (ix2 r 0), ((vstep s)^[n] p).2 (ix2 r 0))
      = (Row.step (fun j => s (ix2 r j)))^[n] (p.1 (ix2 r 0), p.2 (ix2 r 0)) := by
  induction n with
  | zero => rfl
  | succ n ih => rw [Function.iterate_succ_apply', Function.iterate_succ_apply', vstep_apply, ih]

/-- A head's output at row `r`, column `c`. -/
theorem headOut_apply (q : Vec Ideal S256x64 .f32) (k v : Vec Ideal S2048x64 .f32) (r : Fin 256) (c : Fin 64) :
    headOut q k v (ix2 r c)
      = Row.kernelRow (fun j => dotScore (fun d => q (ix2 r d)) (fun d => k (ix2 j d))) (fun j => v (ix2 j c)) := by
  have hs : (fun j => dotScore (fun d => q (ix2 r d)) (fun d => k (ix2 j d))) = fun j => k1_pay3 q k (ix2 r j) :=
    funext fun j => (score_apply q k r j).symm
  rw [hs]
  unfold headOut vout Row.kernelRow Row.thr Row.den
  generalize k1_pay3 q k = s
  have ht := congrArg Prod.fst (vsteps_apply s (vinit s) r 14)
  rw [(vinit_apply s r).1, (vinit_apply s r).2] at ht
  rw [← ht]
  simp only [← vexp_apply]
  rw [← vsum_apply]
  generalize (vstep s)^[14] (vinit s) = p
  generalize vsum (vexp s) = z
  generalize vexp s = e
  pointwise [k1_pay54, vmask, k1_pay2]

end Cert.Proof.Attn

end
end
-- ==== Proof.AttnCall.lean ====
/- The second call's result array as one function of the array it reads, over the extended reals: the sparse attention
   of the queries, keys and values that lie side by side in that array. -/
module

public import proofs.«01_k».proof.Proof.AttnValue

@[expose] public section

set_option maxRecDepth 16384

noncomputable section

namespace Cert.Proof.AttnCall

open Cert.KernelIdeal Cert.KernelIdeal.Gen Cert.Proof.Spec Cert.Proof.Attn
open Idealize.ShloMosaic Idealize.ShloMosaic.TcCoe Idealize.ShloMosaic.Tactic Idealize.SL.Sem

/-- The queries in the array. -/
def Q (A : Vec Ideal S2048x3072 .f32) (n : Fin 2048) (j : Fin 1024) : EReal := A (ix2 n ⟨j.val, by omega⟩)
/-- The keys in the array. -/
def K (A : Vec Ideal S2048x3072 .f32) (n : Fin 2048) (j : Fin 1024) : EReal := A (ix2 n ⟨1024 + j.val, by omega⟩)
/-- The values in the array. -/
def W (A : Vec Ideal S2048x3072 .f32) (n : Fin 2048) (j : Fin 1024) : EReal := A (ix2 n ⟨2048 + j.val, by omega⟩)

/-- The attention's output array. -/
def G (A : Vec Ideal S2048x3072 .f32) : Vec Ideal S2048x1024 .f32 := fun i =>
  att Row.kernelRow (Q A) (K A) (W A) (i 0) (i 1)

/-- Column `e` of the block's half `u`. -/
def half (u : Fin 2) (e : Fin 64) : Fin 128 := ⟨64 * u.val + e.val, by omega⟩

/-- Which half of the block a column lies in. -/
def side (j : Fin 128) : Fin 2 := ⟨j.val / 64, by omega⟩

/-- A point's output block as one function of the block index. -/
def blockG (q : Vec Ideal S256x128 .f32) (k v : Vec Ideal S2048x128 .f32) : Vec Ideal S256x128 .f32 := fun i =>
  Row.kernelRow (fun j => dotScore (fun d => q (ix2 (i 0) (half (side (i 1)) d))) (fun d => k (ix2 j (half (side (i 1)) d))))
    (fun j => v (ix2 j (i 1)))

/-- The query of the block's first head is the left half of the block. -/
theorem ld_q0 (x : Vec Ideal S256x128 .f32) (r : Fin 256) (d : Fin 64) :
    View.ld x r1_0 (ix2 r d) = x (ix2 r (half 0 d)) := by
  refine congrArg x ?_
  funext a; apply Fin.ext
  match a with
  | ⟨0, _⟩ => show 0 + 1 * r.val = r.val; omega
  | ⟨1, _⟩ => show 0 + 1 * d.val = 64 * 0 + d.val; omega

/-- The query of the block's second head is the right half of the block. -/
theorem ld_q1 (x : Vec Ideal S256x128 .f32) (r : Fin 256) (d : Fin 64) :
    View.ld x r1_2 (ix2 r d) = x (ix2 r (half 1 d)) := by
  refine congrArg x ?_
  funext a; apply Fin.ext
  match a with
  | ⟨0, _⟩ => show 0 + 1 * r.val = r.val; omega
  | ⟨1, _⟩ => show 64 + 1 * d.val = 64 * 1 + d.val; omega

/-- The keys and the values of the block's first head are the left half of their block. -/
theorem ld_k0 (x : Vec Ideal S2048x128 .f32) (r : Fin 2048) (d : Fin 64) :
    View.ld x r1_1 (ix2 r d) = x (ix2 r (half 0 d)) := by
  refine congrArg x ?_
  funext a; apply Fin.ext
  match a with
  | ⟨0, _⟩ => show 0 + 1 * r.val = r.val; omega
  | ⟨1, _⟩ => show 0 + 1 * d.val = 64 * 0 + d.val; omega

/-- The keys and the values of the block's second head are the right half of their block. -/
theorem ld_k1 (x : Vec Ideal S2048x128 .f32) (r : Fin 2048) (d : Fin 64) :
    View.ld x r1_3 (ix2 r d) = x (ix2 r (half 1 d)) := by
  refine congrArg x ?_
  funext a; apply Fin.ext
  match a with
  | ⟨0, _⟩ => show 0 + 1 * r.val = r.val; omega
  | ⟨1, _⟩ => show 64 + 1 * d.val = 64 * 1 + d.val; omega

/-- A column of a half lies on that half's side. -/
theorem side_half (u : Fin 2) (e : Fin 64) : side (half u e) = u := by
  apply Fin.ext; show (64 * u.val + e.val) / 64 = u.val; omega

/-- The block the attention region stores, as a function of its three blocks. -/
theorem outG_eq (q : Vec Ideal S256x128 .f32) (k v : Vec Ideal S2048x128 .f32) : out1_3 q k v = blockG q k v := by
  funext y
  rw [out_eq]
  refine View.canon_apply_of_pieces (blockG q k v) _ ?_ y (cover1_3 _ _ y)
  intro p hp i
  simp only [List.mem_cons, List.mem_singleton, List.not_mem_nil, or_false] at hp
  rcases hp with rfl | rfl
  · obtain ⟨r, j, rfl⟩ : ∃ (r : Fin 256) (j : Fin 64), i = ix2 r j := ⟨i 0, i 1, by funext a; fin_cases a <;> rfl⟩
    refine (headOut_apply _ _ _ r j).trans ?_
    have e0 : r1_2.emb (ix2 r j) = ix2 r (half 1 j) := by
      funext a; apply Fin.ext
      match a with
      | ⟨0, _⟩ => show 0 + 1 * r.val = r.val; omega
      | ⟨1, _⟩ => show 64 + 1 * j.val = 64 * 1 + j.val; omega
    show _ = blockG q k v (r1_2.emb (ix2 r j))
    rw [e0]
    show _ = Row.kernelRow (fun j' => dotScore (fun d => q (ix2 r (half (side (half 1 j)) d))) (fun d => k (ix2 j' (half (side (half 1 j)) d))))
      (fun j' => v (ix2 j' (half 1 j)))
    rw [side_half]
    exact congrArg₂ Row.kernelRow (funext fun j' => congrArg₂ dotScore (funext fun d => ld_q1 q r d) (funext fun d => ld_k1 k j' d))
      (funext fun j' => ld_k1 v j' j)
  · obtain ⟨r, j, rfl⟩ : ∃ (r : Fin 256) (j : Fin 64), i = ix2 r j := ⟨i 0, i 1, by funext a; fin_cases a <;> rfl⟩
    refine (headOut_apply _ _ _ r j).trans ?_
    have e0 : r1_0.emb (ix2 r j) = ix2 r (half 0 j) := by
      funext a; apply Fin.ext
      match a with
      | ⟨0, _⟩ => show 0 + 1 * r.val = r.val; omega
      | ⟨1, _⟩ => show 0 + 1 * j.val = 64 * 0 + j.val; omega
    show _ = blockG q k v (r1_0.emb (ix2 r j))
    rw [e0]
    show _ = Row.kernelRow (fun j' => dotScore (fun d => q (ix2 r (half (side (half 0 j)) d))) (fun d => k (ix2 j' (half (side (half 0 j)) d))))
      (fun j' => v (ix2 j' (half 0 j)))
    rw [side_half]
    exact congrArg₂ Row.kernelRow (funext fun j' => congrArg₂ dotScore (funext fun d => ld_q0 q r d) (funext fun d => ld_k0 k j' d))
      (funext fun j' => ld_k0 v j' j)

variable (V : (c : Dev nD) → (b : Ref sig .tc) → Buf (Elt Ideal) ((c : Thread nD τ).loc b))

/-- Which block of queries a grid point reads. -/
theorem idx0 : ∀ t : Fin cfg1.N, win1_0.index t (0 : Fin 2) = t.val % 8 ∧ win1_0.index t (1 : Fin 2) = t.val / 8 :=
  (by decide +kernel : ∀ t : Fin grid1.N, _)

/-- Which block of keys a grid point reads. -/
theorem idx1 : ∀ t : Fin cfg1.N, win1_1.index t (0 : Fin 2) = 0 ∧ win1_1.index t (1 : Fin 2) = 8 + t.val / 8 :=
  (by decide +kernel : ∀ t : Fin grid1.N, _)

/-- Which block of values a grid point reads. -/
theorem idx2 : ∀ t : Fin cfg1.N, win1_2.index t (0 : Fin 2) = 0 ∧ win1_2.index t (1 : Fin 2) = 16 + t.val / 8 :=
  (by decide +kernel : ∀ t : Fin grid1.N, _)

/-- Which block of the output a grid point writes. -/
theorem idx3 : ∀ t : Fin cfg1.N, win1_3.index t (0 : Fin 2) = t.val % 8 ∧ win1_3.index t (1 : Fin 2) = t.val / 8 :=
  (by decide +kernel : ∀ t : Fin grid1.N, _)

/-- The attention region has 64 grid points. -/
theorem N1 : cfg1.N = 64 := N_1

/-- The query block at point `t`. -/
theorem blk0 (c : Dev nD) (t : Fin cfg1.N) (r : Fin 256) (k : Fin 128) (h : t.val % 8 * 256 + r.val < 2048)
    (h' : t.val / 8 * 128 + k.val < 3072) :
    iblk1 V c 0 t (ix2 r k) = (V c main_v3 : Vec Ideal S2048x3072 .f32) (ix2 ⟨t.val % 8 * 256 + r.val, h⟩ ⟨t.val / 8 * 128 + k.val, h'⟩) := by
  obtain ⟨e0, e1⟩ := idx0 t
  refine congrArg (V c main_v3 : Vec Ideal S2048x3072 .f32) ?_
  funext a; apply Fin.ext
  match a with
  | ⟨0, _⟩ => show win1_0.index t (0 : Fin 2) * 256 + 1 * r.val = t.val % 8 * 256 + r.val; omega
  | ⟨1, _⟩ => show win1_0.index t (1 : Fin 2) * 128 + 1 * k.val = t.val / 8 * 128 + k.val; omega

/-- The key block at point `t`. -/
theorem blk1 (c : Dev nD) (t : Fin cfg1.N) (r : Fin 2048) (k : Fin 128)
    (h' : 1024 + t.val / 8 * 128 + k.val < 3072) :
    iblk1 V c 1 t (ix2 r k) = (V c main_v3 : Vec Ideal S2048x3072 .f32) (ix2 r ⟨1024 + t.val / 8 * 128 + k.val, h'⟩) := by
  obtain ⟨e0, e1⟩ := idx1 t
  refine congrArg (V c main_v3 : Vec Ideal S2048x3072 .f32) ?_
  funext a; apply Fin.ext
  match a with
  | ⟨0, _⟩ => show win1_1.index t (0 : Fin 2) * 2048 + 1 * r.val = r.val; omega
  | ⟨1, _⟩ => show win1_1.index t (1 : Fin 2) * 128 + 1 * k.val = 1024 + t.val / 8 * 128 + k.val; omega

/-- The value block at point `t`. -/
theorem blk2 (c : Dev nD) (t : Fin cfg1.N) (r : Fin 2048) (k : Fin 128)
    (h' : 2048 + t.val / 8 * 128 + k.val < 3072) :
    iblk1 V c 2 t (ix2 r k) = (V c main_v3 : Vec Ideal S2048x3072 .f32) (ix2 r ⟨2048 + t.val / 8 * 128 + k.val, h'⟩) := by
  obtain ⟨e0, e1⟩ := idx2 t
  refine congrArg (V c main_v3 : Vec Ideal S2048x3072 .f32) ?_
  funext a; apply Fin.ext
  match a with
  | ⟨0, _⟩ => show win1_2.index t (0 : Fin 2) * 2048 + 1 * r.val = r.val; omega
  | ⟨1, _⟩ => show win1_2.index t (1 : Fin 2) * 128 + 1 * k.val = 2048 + t.val / 8 * 128 + k.val; omega

/-- Where the output block's index lies in the result array. -/
theorem emb3 (t : Fin cfg1.N) (r : Fin 256) (j : Fin 128) (h : t.val % 8 * 256 + r.val < 2048) (h' : t.val / 8 * 128 + j.val < 1024) :
    ((cfg1.win 3).blk t).view.emb (ix2 r j : S256x128.Idx)
      = (ix2 ⟨t.val % 8 * 256 + r.val, h⟩ ⟨t.val / 8 * 128 + j.val, h'⟩ : S2048x1024.Idx) := by
  obtain ⟨e0, e1⟩ := idx3 t
  funext a; apply Fin.ext
  match a with
  | ⟨0, _⟩ => show win1_3.index t (0 : Fin 2) * 256 + 1 * r.val = t.val % 8 * 256 + r.val; omega
  | ⟨1, _⟩ => show win1_3.index t (1 : Fin 2) * 128 + 1 * j.val = t.val / 8 * 128 + j.val; omega

/-- What a point writes back is its block of `G`. -/
theorem flushed_eq (c : Dev nD) (t : Fin cfg1.N) :
    (dat1 V c).flushed 3 t = ((cfg1.win 3).blk t).view.read (Elt Ideal) (G (V c main_v3)) := by
  funext y
  obtain ⟨r, j, rfl⟩ : ∃ (r : Fin 256) (j : Fin 128), y = (ix2 r j : S256x128.Idx) := ⟨y 0, y 1, by funext a; fin_cases a <;> rfl⟩
  have hN := N1
  have ht := t.isLt
  have h : t.val % 8 * 256 + r.val < 2048 := by omega
  have h' : t.val / 8 * 128 + j.val < 1024 := by omega
  show (dat1 V c).after 3 t (ix2 r j) = G (V c main_v3) (((cfg1.win 3).blk t).view.emb (ix2 r j : S256x128.Idx))
  rw [after1_3, emb3 t r j h h', outG_eq]
  generalize hA : (V c main_v3 : Vec Ideal S2048x3072 .f32) = A
  show Row.kernelRow (fun j' => dotScore (fun d => iblk1 V c 0 t (ix2 r (half (side j) d))) (fun d => iblk1 V c 1 t (ix2 j' (half (side j) d))))
      (fun j' => iblk1 V c 2 t (ix2 j' j))
    = Row.kernelRow (scores (Q A) (K A) (head ⟨t.val / 8 * 128 + j.val, h'⟩) ⟨t.val % 8 * 256 + r.val, h⟩)
      (fun j' => W A j' ⟨t.val / 8 * 128 + j.val, h'⟩)
  have hs : ∀ d : Fin 64, t.val / 8 * 128 + (half (side j) d).val = (col (head ⟨t.val / 8 * 128 + j.val, h'⟩) d).val := by
    intro d
    show t.val / 8 * 128 + (64 * (j.val / 64) + d.val) = 64 * ((t.val / 8 * 128 + j.val) / 64) + d.val
    omega
  refine congrArg₂ Row.kernelRow (funext fun j' => ?_) (funext fun j' => ?_)
  · refine congrArg₂ dotScore (funext fun d => ?_) (funext fun d => ?_)
    · rw [blk0 V c t r _ h (by have := (half (side j) d).isLt; omega), hA]
      exact congrArg (fun a => A (ix2 _ a)) (Fin.ext (hs d))
    · rw [blk1 V c t j' _ (by have := (half (side j) d).isLt; omega), hA]
      refine congrArg (fun a => A (ix2 _ a)) (Fin.ext ?_)
      have := hs d
      show 1024 + t.val / 8 * 128 + (half (side j) d).val = 1024 + (col (head ⟨t.val / 8 * 128 + j.val, h'⟩) d).val
      omega
  · rw [blk2 V c t j' j (by omega), hA]
    refine congrArg (fun a => A (ix2 _ a)) (Fin.ext ?_)
    show 2048 + t.val / 8 * 128 + j.val = 2048 + (t.val / 8 * 128 + j.val)
    omega

/-- Every index of the result array is in some point's block. -/
theorem covered (i : S2048x1024.Idx) :
    ∃ t : Fin cfg1.N, (cfg1.win 3).flush t = true ∧ i ∈ ((cfg1.win 3).blk t).view.set := by
  have hN := N1
  have hi : (i 0).val < 2048 := (i 0).isLt
  have hj : (i 1).val < 1024 := (i 1).isLt
  obtain ⟨t, ht⟩ : ∃ t : Fin cfg1.N, t.val = (i 1).val / 128 * 8 + (i 0).val / 256 := ⟨⟨(i 1).val / 128 * 8 + (i 0).val / 256, by omega⟩, rfl⟩
  let r : Fin 256 := ⟨(i 0).val % 256, by omega⟩
  let j : Fin 128 := ⟨(i 1).val % 128, by omega⟩
  have h : t.val % 8 * 256 + r.val < 2048 := by show _ + (i 0).val % 256 < 2048; omega
  have h' : t.val / 8 * 128 + j.val < 1024 := by show _ + (i 1).val % 128 < 1024; omega
  refine ⟨t, flush1_3 t, ?_⟩
  have hm := ((cfg1.win 3).blk t).view.emb_mem_set (ix2 r j : S256x128.Idx)
  rw [emb3 t r j h h'] at hm
  have e : (ix2 ⟨t.val % 8 * 256 + r.val, h⟩ ⟨t.val / 8 * 128 + j.val, h'⟩ : S2048x1024.Idx) = i := by
    funext a; apply Fin.ext
    match a with
    | ⟨0, _⟩ => show t.val % 8 * 256 + (i 0).val % 256 = (i 0).val; omega
    | ⟨1, _⟩ => show t.val / 8 * 128 + (i 1).val % 128 = (i 1).val; omega
  rwa [e] at hm

/-- The result array after the call. -/
theorem final (c : Dev nD) : (dat1 V c).arrAt 3 cfg1.N = G (V c main_v3) :=
  (dat1 V c).arrAt_eq_of_cover 3 _ (fun t _ => flushed_eq V c t) covered

end Cert.Proof.AttnCall

end
end
-- ==== Proof.Ffn.lean ====
/- The third call's result array as one function of the arrays it reads, over the extended reals: the projected
   attention output added to the input, and the feed-forward part. -/
module

public import proofs.«01_k».proof.Proof.Gen.KernelIdeal.Frame
public import proofs.«01_k».proof.Proof.Spec
public import Idealize.ShloMosaic.Lib.Pointwise

@[expose] public section

set_option maxRecDepth 16384

noncomputable section

namespace Cert.Proof.Ffn

open Cert.KernelIdeal Cert.KernelIdeal.Gen Cert.Proof.Spec
open Idealize.ShloMosaic Idealize.ShloMosaic.TcCoe Idealize.ShloMosaic.Tactic Idealize.SL.Sem

/-- The two ways of writing the zero offset. -/
theorem hz : (![0, 0] : Fin 2 → Nat) = fun _ => 0 := funext fun a => by fin_cases a <;> rfl

/-- A row of the result from the input's and the attention output's row. -/
def rowG (x a : Fin 1024 → EReal) (wp : Vec Ideal S1024x1024 .f32) (bp g b : Vec Ideal S1x1024 .f32)
    (w1 : Vec Ideal S4096x1024 .f32) (c1 : Vec Ideal S1x4096 .f32) (w2 : Vec Ideal S1024x4096 .f32) (c2 : Vec Ideal S1x1024 .f32)
    (j : Fin 1024) : EReal :=
  ffn (resid x a (fun j k => wp (ix2 j k)) (fun k => bp (ix2 0 k))) (fun k => g (ix2 0 k)) (fun k => b (ix2 0 k))
    (fun m k => w1 (ix2 m k)) (fun m => c1 (ix2 0 m)) (fun j m => w2 (ix2 j m)) (fun k => c2 (ix2 0 k)) j

/-- The result array. -/
def G (x a : Vec Ideal S2048x1024 .f32) (wp : Vec Ideal S1024x1024 .f32) (bp g b : Vec Ideal S1x1024 .f32)
    (w1 : Vec Ideal S4096x1024 .f32) (c1 : Vec Ideal S1x4096 .f32) (w2 : Vec Ideal S1024x4096 .f32) (c2 : Vec Ideal S1x1024 .f32) :
    Vec Ideal S2048x1024 .f32 := fun i =>
  rowG (fun k => x (ix2 (i 0) k)) (fun k => a (ix2 (i 0) k)) wp bp g b w1 c1 w2 c2 (i 1)

/-- The residual of a block's row. -/
theorem pay2_apply (x a : Vec Ideal S256x1024 .f32) (w : Vec Ideal S1024x1024 .f32) (b : Vec Ideal S1x1024 .f32)
    (r : Fin 256) (j : Fin 1024) :
    k2_pay2 x a w b (ix2 r j)
      = resid (fun k => x (ix2 r k)) (fun k => a (ix2 r k)) (fun j k => w (ix2 j k)) (fun k => b (ix2 0 k)) j := by
  unfold resid dot
  pointwise [k2_pay2]

/-- The normalisation of a block's row. -/
theorem pay3_apply (x a : Vec Ideal S256x1024 .f32) (w : Vec Ideal S1024x1024 .f32) (b g c : Vec Ideal S1x1024 .f32)
    (r : Fin 256) (j : Fin 1024) :
    k2_pay3 x a w b g c (ix2 r j)
      = ln (fun k => k2_pay2 x a w b (ix2 r k)) (fun k => g (ix2 0 k)) (fun k => c (ix2 0 k)) j := by
  unfold k2_pay3
  generalize k2_pay2 x a w b = y
  unfold ln mean
  pointwise

/-- The feed-forward part of a block's row. -/
theorem pay1_apply (y n : FVec Ideal S256x1024 .f32) (w : Vec Ideal S4096x1024 .f32) (c : Vec Ideal S1x4096 .f32)
    (u : Vec Ideal S1024x4096 .f32) (b : Vec Ideal S1x1024 .f32) (r : Fin 256) (j : Fin 1024) :
    k2_pay1 y n w c u b (ix2 r j)
      = y (ix2 r j) + dot (fun m => gelu (dot (fun k => n (ix2 r k)) (fun k => w (ix2 m k)) + c (ix2 0 m))) (fun m => u (ix2 j m))
        + b (ix2 0 j) := by
  unfold gelu dot
  pointwise [k2_pay1]

/-- A point's output block as one function of the block index. -/
def blockG (x a : Vec Ideal S256x1024 .f32) (wp : Vec Ideal S1024x1024 .f32) (bp g b : Vec Ideal S1x1024 .f32)
    (w1 : Vec Ideal S4096x1024 .f32) (c1 : Vec Ideal S1x4096 .f32) (w2 : Vec Ideal S1024x4096 .f32) (c2 : Vec Ideal S1x1024 .f32) :
    Vec Ideal S256x1024 .f32 := fun i =>
  rowG (fun k => x (ix2 (i 0) k)) (fun k => a (ix2 (i 0) k)) wp bp g b w1 c1 w2 c2 (i 1)

/-- The block the last region stores, as a function of its ten blocks. -/
theorem out_eq (x a : Vec Ideal S256x1024 .f32) (wp : Vec Ideal S1024x1024 .f32) (bp g b : Vec Ideal S1x1024 .f32)
    (w1 : Vec Ideal S4096x1024 .f32) (c1 : Vec Ideal S1x4096 .f32) (w2 : Vec Ideal S1024x4096 .f32) (c2 : Vec Ideal S1x1024 .f32) :
    out2_10 x a wp bp g b w1 c1 w2 c2 = blockG x a wp bp g b w1 c1 w2 c2 := by
  funext y
  obtain ⟨r, j, rfl⟩ : ∃ (r : Fin 256) (j : Fin 1024), y = (ix2 r j : S256x1024.Idx) := ⟨y 0, y 1, by funext a; fin_cases a <;> rfl⟩
  unfold out2_10
  have l0 : View.ld x r2_0 = x := View.ld_unit_zero (S := S256x1024) hz _ x
  have l1 : View.ld a r2_0 = a := View.ld_unit_zero (S := S256x1024) hz _ a
  have l2 : View.ld wp r2_1 = wp := View.ld_unit_zero (S := S1024x1024) hz _ wp
  have l3 : View.ld bp r2_2 = bp := View.ld_unit_zero (S := S1x1024) hz _ bp
  have l4 : View.ld g r2_2 = g := View.ld_unit_zero (S := S1x1024) hz _ g
  have l5 : View.ld b r2_2 = b := View.ld_unit_zero (S := S1x1024) hz _ b
  have l6 : View.ld w1 r2_3 = w1 := View.ld_unit_zero (S := S4096x1024) hz _ w1
  have l7 : View.ld c1 r2_4 = c1 := View.ld_unit_zero (S := S1x4096) hz _ c1
  have l8 : View.ld w2 r2_5 = w2 := View.ld_unit_zero (S := S1024x4096) hz _ w2
  have l9 : View.ld c2 r2_2 = c2 := View.ld_unit_zero (S := S1x1024) hz _ c2
  rw [l0, l1, l2, l3, l4, l5, l6, l7, l8, l9]
  refine (congrFun (View.canon_unit_zero (S := S256x1024) hz _ _) (ix2 r j)).trans ?_
  rw [pay1_apply]
  simp only [pay3_apply, pay2_apply]
  rfl

variable (V : (c : Dev nD) → (b : Ref sig .tc) → Buf (Elt Ideal) ((c : Thread nD τ).loc b))

/-- Which block of the input a grid point of the last region reads. -/
theorem idx0 : ∀ t : Fin cfg2.N, win2_0.index t (0 : Fin 2) = t.val ∧ win2_0.index t (1 : Fin 2) = 0 :=
  (by decide +kernel : ∀ t : Fin grid2.N, _)

/-- Which block of the attention output a grid point of the last region reads. -/
theorem idx1 : ∀ t : Fin cfg2.N, win2_1.index t (0 : Fin 2) = t.val ∧ win2_1.index t (1 : Fin 2) = 0 :=
  (by decide +kernel : ∀ t : Fin grid2.N, _)

/-- Which block of the output projection a grid point of the last region reads. -/
theorem idx2 : ∀ t : Fin cfg2.N, win2_2.index t (0 : Fin 2) = 0 ∧ win2_2.index t (1 : Fin 2) = 0 :=
  (by decide +kernel : ∀ t : Fin grid2.N, _)

/-- Which block of the output projection's bias a grid point of the last region reads. -/
theorem idx3 : ∀ t : Fin cfg2.N, win2_3.index t (0 : Fin 2) = 0 ∧ win2_3.index t (1 : Fin 2) = 0 :=
  (by decide +kernel : ∀ t : Fin grid2.N, _)

/-- Which block of the second normalisation's scale a grid point of the last region reads. -/
theorem idx4 : ∀ t : Fin cfg2.N, win2_4.index t (0 : Fin 2) = 0 ∧ win2_4.index t (1 : Fin 2) = 0 :=
  (by decide +kernel : ∀ t : Fin grid2.N, _)

/-- Which block of the second normalisation's shift a grid point of the last region reads. -/
theorem idx5 : ∀ t : Fin cfg2.N, win2_5.index t (0 : Fin 2) = 0 ∧ win2_5.index t (1 : Fin 2) = 0 :=
  (by decide +kernel : ∀ t : Fin grid2.N, _)

/-- Which block of the first feed-forward weight a grid point of the last region reads. -/
theorem idx6 : ∀ t : Fin cfg2.N, win2_6.index t (0 : Fin 2) = 0 ∧ win2_6.index t (1 : Fin 2) = 0 :=
  (by decide +kernel : ∀ t : Fin grid2.N, _)

/-- Which block of the first feed-forward bias a grid point of the last region reads. -/
theorem idx7 : ∀ t : Fin cfg2.N, win2_7.index t (0 : Fin 2) = 0 ∧ win2_7.index t (1 : Fin 2) = 0 :=
  (by decide +kernel : ∀ t : Fin grid2.N, _)

/-- Which block of the second feed-forward weight a grid point of the last region reads. -/
theorem idx8 : ∀ t : Fin cfg2.N, win2_8.index t (0 : Fin 2) = 0 ∧ win2_8.index t (1 : Fin 2) = 0 :=
  (by decide +kernel : ∀ t : Fin grid2.N, _)

/-- Which block of the second feed-forward bias a grid point of the last region reads. -/
theorem idx9 : ∀ t : Fin cfg2.N, win2_9.index t (0 : Fin 2) = 0 ∧ win2_9.index t (1 : Fin 2) = 0 :=
  (by decide +kernel : ∀ t : Fin grid2.N, _)

/-- Which block of the result a grid point of the last region writes. -/
theorem idx10 : ∀ t : Fin cfg2.N, win2_10.index t (0 : Fin 2) = t.val ∧ win2_10.index t (1 : Fin 2) = 0 :=
  (by decide +kernel : ∀ t : Fin grid2.N, _)

/-- The input block at point `t` is 256 rows of the input. -/
theorem blk0 (c : Dev nD) (t : Fin cfg2.N) (r : Fin 256) (k : Fin 1024) (h : t.val * 256 + r.val < 2048) :
    iblk2 V c 0 t (ix2 r k) = (V c main_v0 : Vec Ideal S2048x1024 .f32) (ix2 ⟨t.val * 256 + r.val, h⟩ k) := by
  obtain ⟨e0, e1⟩ := idx0 t
  refine congrArg (V c main_v0 : Vec Ideal S2048x1024 .f32) ?_
  funext a; apply Fin.ext
  match a with
  | ⟨0, _⟩ => show win2_0.index t (0 : Fin 2) * 256 + 1 * r.val = t.val * 256 + r.val; omega
  | ⟨1, _⟩ => show win2_0.index t (1 : Fin 2) * 1024 + 1 * k.val = k.val; omega

/-- The attention block at point `t` is 256 rows of the attention output. -/
theorem blk1 (c : Dev nD) (t : Fin cfg2.N) (r : Fin 256) (k : Fin 1024) (h : t.val * 256 + r.val < 2048) :
    iblk2 V c 1 t (ix2 r k) = (V c main_v4 : Vec Ideal S2048x1024 .f32) (ix2 ⟨t.val * 256 + r.val, h⟩ k) := by
  obtain ⟨e0, e1⟩ := idx1 t
  refine congrArg (V c main_v4 : Vec Ideal S2048x1024 .f32) ?_
  funext a; apply Fin.ext
  match a with
  | ⟨0, _⟩ => show win2_1.index t (0 : Fin 2) * 256 + 1 * r.val = t.val * 256 + r.val; omega
  | ⟨1, _⟩ => show win2_1.index t (1 : Fin 2) * 1024 + 1 * k.val = k.val; omega

/-- Every grid point of the last region reads the output projection whole. -/
theorem blk2 (c : Dev nD) (t : Fin cfg2.N) : iblk2 V c 2 t = (V c main_arg6 : Vec Ideal S1024x1024 .f32) := by
  obtain ⟨e0, e1⟩ := idx2 t
  funext j
  refine congrArg (V c main_arg6 : Vec Ideal S1024x1024 .f32) ?_
  funext a; apply Fin.ext
  match a with
  | ⟨0, _⟩ => show win2_2.index t (0 : Fin 2) * 1024 + 1 * (j 0).val = (j 0).val; omega
  | ⟨1, _⟩ => show win2_2.index t (1 : Fin 2) * 1024 + 1 * (j 1).val = (j 1).val; omega

/-- Every grid point of the last region reads the output projection's bias whole. -/
theorem blk3 (c : Dev nD) (t : Fin cfg2.N) : iblk2 V c 3 t = (V c main_v5 : Vec Ideal S1x1024 .f32) := by
  obtain ⟨e0, e1⟩ := idx3 t
  funext j
  refine congrArg (V c main_v5 : Vec Ideal S1x1024 .f32) ?_
  funext a; apply Fin.ext
  match a with
  | ⟨0, _⟩ => show win2_3.index t (0 : Fin 2) * 1 + 1 * (j 0).val = (j 0).val; omega
  | ⟨1, _⟩ => show win2_3.index t (1 : Fin 2) * 1024 + 1 * (j 1).val = (j 1).val; omega

/-- Every grid point of the last region reads the second normalisation's scale whole. -/
theorem blk4 (c : Dev nD) (t : Fin cfg2.N) : iblk2 V c 4 t = (V c main_v6 : Vec Ideal S1x1024 .f32) := by
  obtain ⟨e0, e1⟩ := idx4 t
  funext j
  refine congrArg (V c main_v6 : Vec Ideal S1x1024 .f32) ?_
  funext a; apply Fin.ext
  match a with
  | ⟨0, _⟩ => show win2_4.index t (0 : Fin 2) * 1 + 1 * (j 0).val = (j 0).val; omega
  | ⟨1, _⟩ => show win2_4.index t (1 : Fin 2) * 1024 + 1 * (j 1).val = (j 1).val; omega

/-- Every grid point of the last region reads the second normalisation's shift whole. -/
theorem blk5 (c : Dev nD) (t : Fin cfg2.N) : iblk2 V c 5 t = (V c main_v7 : Vec Ideal S1x1024 .f32) := by
  obtain ⟨e0, e1⟩ := idx5 t
  funext j
  refine congrArg (V c main_v7 : Vec Ideal S1x1024 .f32) ?_
  funext a; apply Fin.ext
  match a with
  | ⟨0, _⟩ => show win2_5.index t (0 : Fin 2) * 1 + 1 * (j 0).val = (j 0).val; omega
  | ⟨1, _⟩ => show win2_5.index t (1 : Fin 2) * 1024 + 1 * (j 1).val = (j 1).val; omega

/-- Every grid point of the last region reads the first feed-forward weight whole. -/
theorem blk6 (c : Dev nD) (t : Fin cfg2.N) : iblk2 V c 6 t = (V c main_arg10 : Vec Ideal S4096x1024 .f32) := by
  obtain ⟨e0, e1⟩ := idx6 t
  funext j
  refine congrArg (V c main_arg10 : Vec Ideal S4096x1024 .f32) ?_
  funext a; apply Fin.ext
  match a with
  | ⟨0, _⟩ => show win2_6.index t (0 : Fin 2) * 4096 + 1 * (j 0).val = (j 0).val; omega
  | ⟨1, _⟩ => show win2_6.index t (1 : Fin 2) * 1024 + 1 * (j 1).val = (j 1).val; omega

/-- Every grid point of the last region reads the first feed-forward bias whole. -/
theorem blk7 (c : Dev nD) (t : Fin cfg2.N) : iblk2 V c 7 t = (V c main_v8 : Vec Ideal S1x4096 .f32) := by
  obtain ⟨e0, e1⟩ := idx7 t
  funext j
  refine congrArg (V c main_v8 : Vec Ideal S1x4096 .f32) ?_
  funext a; apply Fin.ext
  match a with
  | ⟨0, _⟩ => show win2_7.index t (0 : Fin 2) * 1 + 1 * (j 0).val = (j 0).val; omega
  | ⟨1, _⟩ => show win2_7.index t (1 : Fin 2) * 4096 + 1 * (j 1).val = (j 1).val; omega

/-- Every grid point of the last region reads the second feed-forward weight whole. -/
theorem blk8 (c : Dev nD) (t : Fin cfg2.N) : iblk2 V c 8 t = (V c main_arg12 : Vec Ideal S1024x4096 .f32) := by
  obtain ⟨e0, e1⟩ := idx8 t
  funext j
  refine congrArg (V c main_arg12 : Vec Ideal S1024x4096 .f32) ?_
  funext a; apply Fin.ext
  match a with
  | ⟨0, _⟩ => show win2_8.index t (0 : Fin 2) * 1024 + 1 * (j 0).val = (j 0).val; omega
  | ⟨1, _⟩ => show win2_8.index t (1 : Fin 2) * 4096 + 1 * (j 1).val = (j 1).val; omega

/-- Every grid point of the last region reads the second feed-forward bias whole. -/
theorem blk9 (c : Dev nD) (t : Fin cfg2.N) : iblk2 V c 9 t = (V c main_v9 : Vec Ideal S1x1024 .f32) := by
  obtain ⟨e0, e1⟩ := idx9 t
  funext j
  refine congrArg (V c main_v9 : Vec Ideal S1x1024 .f32) ?_
  funext a; apply Fin.ext
  match a with
  | ⟨0, _⟩ => show win2_9.index t (0 : Fin 2) * 1 + 1 * (j 0).val = (j 0).val; omega
  | ⟨1, _⟩ => show win2_9.index t (1 : Fin 2) * 1024 + 1 * (j 1).val = (j 1).val; omega

/-- The last region has 8 grid points. -/
theorem N2 : cfg2.N = 8 := N_2

/-- Where the output block's index lies in the result array. -/
theorem emb10 (t : Fin cfg2.N) (r : Fin 256) (j : Fin 1024) (h : t.val * 256 + r.val < 2048) :
    ((cfg2.win 10).blk t).view.emb (ix2 r j : S256x1024.Idx) = (ix2 ⟨t.val * 256 + r.val, h⟩ j : S2048x1024.Idx) := by
  obtain ⟨e0, e1⟩ := idx10 t
  funext a; apply Fin.ext
  match a with
  | ⟨0, _⟩ => show win2_10.index t (0 : Fin 2) * 256 + 1 * r.val = t.val * 256 + r.val; omega
  | ⟨1, _⟩ => show win2_10.index t (1 : Fin 2) * 1024 + 1 * j.val = j.val; omega

/-- The result array from what the call finds. -/
def GV (c : Dev nD) : Vec Ideal S2048x1024 .f32 :=
  G (V c main_v0) (V c main_v4) (V c main_arg6) (V c main_v5) (V c main_v6) (V c main_v7) (V c main_arg10) (V c main_v8)
    (V c main_arg12) (V c main_v9)

/-- What a point writes back is its block of `GV`. -/
theorem flushed_eq (c : Dev nD) (t : Fin cfg2.N) :
    (dat2 V c).flushed 10 t = ((cfg2.win 10).blk t).view.read (Elt Ideal) (GV V c) := by
  funext y
  obtain ⟨r, j, rfl⟩ : ∃ (r : Fin 256) (j : Fin 1024), y = (ix2 r j : S256x1024.Idx) := ⟨y 0, y 1, by funext a; fin_cases a <;> rfl⟩
  have hN := N2
  have h : t.val * 256 + r.val < 2048 := by omega
  show (dat2 V c).after 10 t (ix2 r j) = GV V c (((cfg2.win 10).blk t).view.emb (ix2 r j : S256x1024.Idx))
  rw [after2_10, emb10 t r j h, out_eq, blk2, blk3, blk4, blk5, blk6, blk7, blk8, blk9]
  unfold blockG GV G
  refine congrArg₂ (fun f f' => rowG f f' _ _ _ _ _ _ _ _ _) (funext fun k => ?_) (funext fun k => ?_)
  · exact blk0 V c t r k h
  · exact blk1 V c t r k h

/-- Every index of the result array is in some point's block. -/
theorem covered (i : S2048x1024.Idx) :
    ∃ t : Fin cfg2.N, (cfg2.win 10).flush t = true ∧ i ∈ ((cfg2.win 10).blk t).view.set := by
  have hN := N2
  have hi : (i 0).val < 2048 := (i 0).isLt
  let t : Fin cfg2.N := ⟨(i 0).val / 256, by omega⟩
  let r : Fin 256 := ⟨(i 0).val % 256, by omega⟩
  refine ⟨t, flush2_10 t, ?_⟩
  have h := ((cfg2.win 10).blk t).view.emb_mem_set (ix2 r (i 1) : S256x1024.Idx)
  rw [emb10 t r (i 1) (by show (i 0).val / 256 * 256 + (i 0).val % 256 < 2048; omega)] at h
  have e : (ix2 ⟨t.val * 256 + r.val, by show (i 0).val / 256 * 256 + (i 0).val % 256 < 2048; omega⟩ (i 1) : S2048x1024.Idx) = i := by
    funext a; apply Fin.ext
    match a with
    | ⟨0, _⟩ => show (i 0).val / 256 * 256 + (i 0).val % 256 = (i 0).val; omega
    | ⟨1, _⟩ => rfl
  rwa [e] at h

/-- The result array after the call. -/
theorem final (c : Dev nD) : (dat2 V c).arrAt 10 cfg2.N = GV V c :=
  (dat2 V c).arrAt_eq_of_cover 10 _ (fun t _ => flushed_eq V c t) covered

end Cert.Proof.Ffn

end
end
-- ==== Proof.Whole.lean ====
/- The whole block as one function of the fourteen argument arrays. -/
module

public import proofs.«01_k».proof.Proof.Spec
public import Idealize.ShloMosaic.Lib.Pointwise

@[expose] public section

noncomputable section

namespace Cert.Proof.Spec

open Idealize.ShloMosaic

/-- A matrix's rows. -/
abbrev mat {a b : ℕ} (w : FVec Ideal ⟨2, ![a, b]⟩ .f32) (i : Fin a) (j : Fin b) : EReal := w (ix2 i j)
/-- A vector's entries. -/
abbrev vec {a : ℕ} (v : FVec Ideal ⟨1, ![a]⟩ .f32) (i : Fin a) : EReal := v (ix1 i)
/-- The rows of an array with one leading unit axis. -/
abbrev rows {a b : ℕ} (w : FVec Ideal ⟨3, ![1, a, b]⟩ .f32) (i : Fin a) (j : Fin b) : EReal := w (ix3 0 i j)

/-- The block's result array, for a way `row` of weighting a row of values by its scores. -/
def whole (row : (Fin 2048 → EReal) → (Fin 2048 → EReal) → EReal)
    (x : FVec Ideal ⟨3, ![1, 2048, 1024]⟩ .f32) (g1 b1 : FVec Ideal ⟨1, ![1024]⟩ .f32)
    (wq wk wv wp : FVec Ideal ⟨2, ![1024, 1024]⟩ .f32) (bp g2 b2 : FVec Ideal ⟨1, ![1024]⟩ .f32)
    (w1 : FVec Ideal ⟨2, ![4096, 1024]⟩ .f32) (c1 : FVec Ideal ⟨1, ![4096]⟩ .f32)
    (w2 : FVec Ideal ⟨2, ![1024, 4096]⟩ .f32) (c2 : FVec Ideal ⟨1, ![1024]⟩ .f32) : FVec Ideal ⟨3, ![1, 2048, 1024]⟩ .f32 :=
  fun i => block row (rows x) (vec g1) (vec b1) (mat wq) (mat wk) (mat wv) (mat wp) (vec bp) (vec g2) (vec b2) (mat w1) (vec c1)
    (mat w2) (vec c2) (i 1) (i 2)

end Cert.Proof.Spec

end
end
-- ==== Proof.KernelValue.lean ====
/- The idealized kernel's result array as the whole block with the kernel's way of weighting. -/
module

public import proofs.«01_k».proof.Proof.Qkv
public import proofs.«01_k».proof.Proof.AttnCall
public import proofs.«01_k».proof.Proof.Ffn
public import proofs.«01_k».proof.Proof.Whole

@[expose] public section

set_option maxRecDepth 16384

noncomputable section

namespace Cert.Proof.KernelValue

open Cert.KernelIdeal Cert.KernelIdeal.Gen Cert.Proof.Spec
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

/-- A reshape to one leading unit axis at an index. -/
theorem cast_row {a : ℕ} (v : FVec Ideal ⟨1, ![a]⟩ .f32) (h : (⟨1, ![a]⟩ : Shape).ShapeCasts ⟨2, ![1, a]⟩) (k : Fin a) :
    shapeCast (⟨2, ![1, a]⟩ : Shape) v h (ix2 0 k) = v (ix1 k) := by
  refine (shapeCast_addUnit_apply ![a] v h (ix2 0 k)).trans (congrArg v ?_)
  funext d; fin_cases d; rfl

/-- The input as a matrix. -/
theorem v0_apply (n : Fin 2048) (k : Fin 1024) :
    (W1 m ρ c (Proc.devRef .tc main_v0) : Vec Ideal S2048x1024 .f32) (ix2 n k)
      = rows (m ((c.tc : Thread nD τ).loc main_arg0) : Vec Ideal S1x2048x1024 .f32) n k := by
  have h : W1 m ρ c (Proc.devRef .tc main_v0)
      = shapeCast S2048x1024 (m ((c.tc : Thread nD τ).loc main_arg0) : Vec Ideal S1x2048x1024 .f32) shapeCasts_S1x2048x1024_S2048x1024 := by
    after_results
    rfl
  rw [h]
  refine (shapeCast_dropUnit_apply ![2048, 1024] _ shapeCasts_S1x2048x1024_S2048x1024 (ix2 n k)).trans ?_
  refine congrArg (m ((c.tc : Thread nD τ).loc main_arg0) : Vec Ideal S1x2048x1024 .f32) ?_
  funext d; fin_cases d <;> rfl

/-- The first normalisation's scale as a row. -/
theorem v1_apply (k : Fin 1024) :
    (W1 m ρ c (Proc.devRef .tc main_v1) : Vec Ideal S1x1024 .f32) (ix2 0 k)
      = vec (m ((c.tc : Thread nD τ).loc main_arg1) : Vec Ideal S1024 .f32) k := by
  have h : W1 m ρ c (Proc.devRef .tc main_v1)
      = shapeCast S1x1024 (m ((c.tc : Thread nD τ).loc main_arg1) : Vec Ideal S1024 .f32) shapeCasts_S1024_S1x1024 := by
    after_results
    rfl
  rw [h]
  exact cast_row _ _ k

/-- The first normalisation's shift as a row. -/
theorem v2_apply (k : Fin 1024) :
    (W1 m ρ c (Proc.devRef .tc main_v2) : Vec Ideal S1x1024 .f32) (ix2 0 k)
      = vec (m ((c.tc : Thread nD τ).loc main_arg2) : Vec Ideal S1024 .f32) k := by
  have h : W1 m ρ c (Proc.devRef .tc main_v2)
      = shapeCast S1x1024 (m ((c.tc : Thread nD τ).loc main_arg2) : Vec Ideal S1024 .f32) shapeCasts_S1024_S1x1024 := by
    after_results
    rfl
  rw [h]
  exact cast_row _ _ k

/-- The output projection's bias as a row. -/
theorem v5_apply (k : Fin 1024) :
    (V4 m ρ c main_v5 : Vec Ideal S1x1024 .f32) (ix2 0 k)
      = vec (m ((c.tc : Thread nD τ).loc main_arg7) : Vec Ideal S1024 .f32) k := by
  have h : V4 m ρ c main_v5
      = shapeCast S1x1024 (W3 m ρ c (Proc.devRef .tc main_arg7) : Vec Ideal S1024 .f32) shapeCasts_S1024_S1x1024 := by
    show StableHlo.after hostOps2 (W3 m ρ c) (Proc.devRef .tc main_v5) = _
    after_results
    rfl
  rw [h, W3_args m ρ c main_arg7 (by simp)]
  exact cast_row _ _ k

/-- The second normalisation's scale as a row. -/
theorem v6_apply (k : Fin 1024) :
    (V4 m ρ c main_v6 : Vec Ideal S1x1024 .f32) (ix2 0 k)
      = vec (m ((c.tc : Thread nD τ).loc main_arg8) : Vec Ideal S1024 .f32) k := by
  have h : V4 m ρ c main_v6
      = shapeCast S1x1024 (W3 m ρ c (Proc.devRef .tc main_arg8) : Vec Ideal S1024 .f32) shapeCasts_S1024_S1x1024 := by
    show StableHlo.after hostOps2 (W3 m ρ c) (Proc.devRef .tc main_v6) = _
    after_results
    rfl
  rw [h, W3_args m ρ c main_arg8 (by simp)]
  exact cast_row _ _ k

/-- The second normalisation's shift as a row. -/
theorem v7_apply (k : Fin 1024) :
    (V4 m ρ c main_v7 : Vec Ideal S1x1024 .f32) (ix2 0 k)
      = vec (m ((c.tc : Thread nD τ).loc main_arg9) : Vec Ideal S1024 .f32) k := by
  have h : V4 m ρ c main_v7
      = shapeCast S1x1024 (W3 m ρ c (Proc.devRef .tc main_arg9) : Vec Ideal S1024 .f32) shapeCasts_S1024_S1x1024 := by
    show StableHlo.after hostOps2 (W3 m ρ c) (Proc.devRef .tc main_v7) = _
    after_results
    rfl
  rw [h, W3_args m ρ c main_arg9 (by simp)]
  exact cast_row _ _ k

/-- The first feed-forward bias as a row. -/
theorem v8_apply (k : Fin 4096) :
    (V4 m ρ c main_v8 : Vec Ideal S1x4096 .f32) (ix2 0 k)
      = vec (m ((c.tc : Thread nD τ).loc main_arg11) : Vec Ideal S4096 .f32) k := by
  have h : V4 m ρ c main_v8
      = shapeCast S1x4096 (W3 m ρ c (Proc.devRef .tc main_arg11) : Vec Ideal S4096 .f32) shapeCasts_S4096_S1x4096 := by
    show StableHlo.after hostOps2 (W3 m ρ c) (Proc.devRef .tc main_v8) = _
    after_results
    rfl
  rw [h, W3_args m ρ c main_arg11 (by simp)]
  exact cast_row _ _ k

/-- The second feed-forward bias as a row. -/
theorem v9_apply (k : Fin 1024) :
    (V4 m ρ c main_v9 : Vec Ideal S1x1024 .f32) (ix2 0 k)
      = vec (m ((c.tc : Thread nD τ).loc main_arg13) : Vec Ideal S1024 .f32) k := by
  have h : V4 m ρ c main_v9
      = shapeCast S1x1024 (W3 m ρ c (Proc.devRef .tc main_arg13) : Vec Ideal S1024 .f32) shapeCasts_S1024_S1x1024 := by
    show StableHlo.after hostOps2 (W3 m ρ c) (Proc.devRef .tc main_v9) = _
    after_results
    rfl
  rw [h, W3_args m ρ c main_arg13 (by simp)]
  exact cast_row _ _ k

/-- The projections' array. -/
theorem v3_eq : (V2 m ρ c main_v3 : Vec Ideal S2048x3072 .f32)
    = Qkv.G (V1 m ρ c main_v0) (V1 m ρ c main_v1) (V1 m ρ c main_v2) (V1 m ρ c main_arg3) (V1 m ρ c main_arg4) (V1 m ρ c main_arg5) :=
  (W2_arr m ρ c 6).trans (Qkv.final (V1 m ρ) c)

/-- A projection column of that array. -/
theorem v3_proj (n : Fin 2048) (j : Fin 3072) :
    (V2 m ρ c main_v3 : Vec Ideal S2048x3072 .f32) (ix2 n j)
      = dot (ln (rows (m ((c.tc : Thread nD τ).loc main_arg0) : Vec Ideal S1x2048x1024 .f32) n)
            (vec (m ((c.tc : Thread nD τ).loc main_arg1) : Vec Ideal S1024 .f32))
            (vec (m ((c.tc : Thread nD τ).loc main_arg2) : Vec Ideal S1024 .f32)))
          (Qkv.wrow (m ((c.tc : Thread nD τ).loc main_arg3) : Vec Ideal S1024x1024 .f32)
            (m ((c.tc : Thread nD τ).loc main_arg4) : Vec Ideal S1024x1024 .f32)
            (m ((c.tc : Thread nD τ).loc main_arg5) : Vec Ideal S1024x1024 .f32) j) := by
  rw [v3_eq]
  show dot (ln (fun k => (W1 m ρ c (Proc.devRef .tc main_v0) : Vec Ideal S2048x1024 .f32) (ix2 n k))
      (fun k => (W1 m ρ c (Proc.devRef .tc main_v1) : Vec Ideal S1x1024 .f32) (ix2 0 k))
      (fun k => (W1 m ρ c (Proc.devRef .tc main_v2) : Vec Ideal S1x1024 .f32) (ix2 0 k)))
    (Qkv.wrow (W1 m ρ c (Proc.devRef .tc main_arg3)) (W1 m ρ c (Proc.devRef .tc main_arg4)) (W1 m ρ c (Proc.devRef .tc main_arg5)) j) = _
  rw [W1_args m ρ c main_arg3 (by simp), W1_args m ρ c main_arg4 (by simp), W1_args m ρ c main_arg5 (by simp)]
  refine congrArg (fun f => dot f _) ?_
  rw [show (fun k => (W1 m ρ c (Proc.devRef .tc main_v0) : Vec Ideal S2048x1024 .f32) (ix2 n k)) = _ from funext fun k => v0_apply m ρ c n k,
    show (fun k => (W1 m ρ c (Proc.devRef .tc main_v1) : Vec Ideal S1x1024 .f32) (ix2 0 k)) = _ from funext fun k => v1_apply m ρ c k,
    show (fun k => (W1 m ρ c (Proc.devRef .tc main_v2) : Vec Ideal S1x1024 .f32) (ix2 0 k)) = _ from funext fun k => v2_apply m ρ c k]

/-- The attention output's array. -/
theorem v4_eq (n : Fin 2048) (i : Fin 1024) : (V4 m ρ c main_v4 : Vec Ideal S2048x1024 .f32) (ix2 n i)
    = att Row.kernelRow
        (proj (rows (m ((c.tc : Thread nD τ).loc main_arg0) : Vec Ideal S1x2048x1024 .f32)) (vec (m ((c.tc : Thread nD τ).loc main_arg1) : Vec Ideal S1024 .f32))
          (vec (m ((c.tc : Thread nD τ).loc main_arg2) : Vec Ideal S1024 .f32)) (mat (m ((c.tc : Thread nD τ).loc main_arg3) : Vec Ideal S1024x1024 .f32)))
        (proj (rows (m ((c.tc : Thread nD τ).loc main_arg0) : Vec Ideal S1x2048x1024 .f32)) (vec (m ((c.tc : Thread nD τ).loc main_arg1) : Vec Ideal S1024 .f32))
          (vec (m ((c.tc : Thread nD τ).loc main_arg2) : Vec Ideal S1024 .f32)) (mat (m ((c.tc : Thread nD τ).loc main_arg4) : Vec Ideal S1024x1024 .f32)))
        (proj (rows (m ((c.tc : Thread nD τ).loc main_arg0) : Vec Ideal S1x2048x1024 .f32)) (vec (m ((c.tc : Thread nD τ).loc main_arg1) : Vec Ideal S1024 .f32))
          (vec (m ((c.tc : Thread nD τ).loc main_arg2) : Vec Ideal S1024 .f32)) (mat (m ((c.tc : Thread nD τ).loc main_arg5) : Vec Ideal S1024x1024 .f32)))
        n i := by
  have h : (V4 m ρ c main_v4 : Vec Ideal S2048x1024 .f32) = AttnCall.G (V2 m ρ c main_v3) :=
    (W4_of m ρ c main_v4 (by decide)).trans ((W3_arr m ρ c 3).trans (AttnCall.final (V2 m ρ) c))
  rw [h]
  show att Row.kernelRow (AttnCall.Q _) (AttnCall.K _) (AttnCall.W _) n i = _
  have hQ : AttnCall.Q (V2 m ρ c main_v3) = proj (rows (m ((c.tc : Thread nD τ).loc main_arg0) : Vec Ideal S1x2048x1024 .f32))
      (vec (m ((c.tc : Thread nD τ).loc main_arg1) : Vec Ideal S1024 .f32)) (vec (m ((c.tc : Thread nD τ).loc main_arg2) : Vec Ideal S1024 .f32))
      (mat (m ((c.tc : Thread nD τ).loc main_arg3) : Vec Ideal S1024x1024 .f32)) := by
    funext n j
    refine (v3_proj m ρ c n _).trans (congrArg (dot _) ?_)
    funext k
    unfold Qkv.wrow
    rw [dif_pos (by simp)]
  have hK : AttnCall.K (V2 m ρ c main_v3) = proj (rows (m ((c.tc : Thread nD τ).loc main_arg0) : Vec Ideal S1x2048x1024 .f32))
      (vec (m ((c.tc : Thread nD τ).loc main_arg1) : Vec Ideal S1024 .f32)) (vec (m ((c.tc : Thread nD τ).loc main_arg2) : Vec Ideal S1024 .f32))
      (mat (m ((c.tc : Thread nD τ).loc main_arg4) : Vec Ideal S1024x1024 .f32)) := by
    funext n j
    refine (v3_proj m ρ c n _).trans (congrArg (dot _) ?_)
    funext k
    unfold Qkv.wrow
    rw [dif_neg (by simp), dif_pos (by simp; omega)]
    refine congrArg (fun a => (m ((c.tc : Thread nD τ).loc main_arg4) : Vec Ideal S1024x1024 .f32) (ix2 a k)) (Fin.ext ?_)
    show 1024 + j.val - 1024 = j.val
    omega
  have hW : AttnCall.W (V2 m ρ c main_v3) = proj (rows (m ((c.tc : Thread nD τ).loc main_arg0) : Vec Ideal S1x2048x1024 .f32))
      (vec (m ((c.tc : Thread nD τ).loc main_arg1) : Vec Ideal S1024 .f32)) (vec (m ((c.tc : Thread nD τ).loc main_arg2) : Vec Ideal S1024 .f32))
      (mat (m ((c.tc : Thread nD τ).loc main_arg5) : Vec Ideal S1024x1024 .f32)) := by
    funext n j
    refine (v3_proj m ρ c n _).trans (congrArg (dot _) ?_)
    funext k
    unfold Qkv.wrow
    rw [dif_neg (by simp; omega), dif_neg (by simp)]
    refine congrArg (fun a => (m ((c.tc : Thread nD τ).loc main_arg5) : Vec Ideal S1024x1024 .f32) (ix2 a k)) (Fin.ext ?_)
    show 2048 + j.val - 2048 = j.val
    omega
  rw [hQ, hK, hW]

/-- The input as the third call finds it. -/
theorem V4_v0 : V4 m ρ c main_v0 = W1 m ρ c (Proc.devRef .tc main_v0) :=
  (W4_of m ρ c main_v0 (by decide)).trans ((W3_of m ρ c main_v0 (by decide)).trans (W2_of m ρ c main_v0 (by decide)))

/-- The kernel's result array. -/
theorem v11_eq : (W6 m ρ c (Proc.devRef .tc main_v11) : Vec Ideal S1x2048x1024 .f32)
    = whole Row.kernelRow (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10))
        (m ((c.tc : Thread nD τ).loc main_arg11)) (m ((c.tc : Thread nD τ).loc main_arg12)) (m ((c.tc : Thread nD τ).loc main_arg13)) := by
  have h : W6 m ρ c (Proc.devRef .tc main_v11)
      = shapeCast S1x2048x1024 (W5 m ρ c (Proc.devRef .tc main_v10) : Vec Ideal S2048x1024 .f32) shapeCasts_S2048x1024_S1x2048x1024 := by
    after_results
    rfl
  rw [h, show W5 m ρ c (Proc.devRef .tc main_v10) = Ffn.GV (V4 m ρ) c from (W5_arr m ρ c 10).trans (Ffn.final (V4 m ρ) c)]
  funext i
  refine (shapeCast_addUnit_apply ![2048, 1024] _ shapeCasts_S2048x1024_S1x2048x1024 i).trans ?_
  show ffn (resid (fun k => (V4 m ρ c main_v0 : Vec Ideal S2048x1024 .f32) (ix2 (i 1) k))
      (fun k => (V4 m ρ c main_v4 : Vec Ideal S2048x1024 .f32) (ix2 (i 1) k))
      (fun j k => (V4 m ρ c main_arg6 : Vec Ideal S1024x1024 .f32) (ix2 j k)) (fun k => (V4 m ρ c main_v5 : Vec Ideal S1x1024 .f32) (ix2 0 k)))
    (fun k => (V4 m ρ c main_v6 : Vec Ideal S1x1024 .f32) (ix2 0 k)) (fun k => (V4 m ρ c main_v7 : Vec Ideal S1x1024 .f32) (ix2 0 k))
    (fun j k => (V4 m ρ c main_arg10 : Vec Ideal S4096x1024 .f32) (ix2 j k)) (fun k => (V4 m ρ c main_v8 : Vec Ideal S1x4096 .f32) (ix2 0 k))
    (fun j k => (V4 m ρ c main_arg12 : Vec Ideal S1024x4096 .f32) (ix2 j k)) (fun k => (V4 m ρ c main_v9 : Vec Ideal S1x1024 .f32) (ix2 0 k)) (i 2)
    = block Row.kernelRow _ _ _ _ _ _ _ _ _ _ _ _ _ _ (i 1) (i 2)
  rw [show (fun k => (V4 m ρ c main_v0 : Vec Ideal S2048x1024 .f32) (ix2 (i 1) k)) = _ from
      funext fun k => (congrFun (V4_v0 m ρ c) _).trans (v0_apply m ρ c (i 1) k),
    show (fun k => (V4 m ρ c main_v4 : Vec Ideal S2048x1024 .f32) (ix2 (i 1) k)) = _ from funext fun k => v4_eq m ρ c (i 1) k,
    show (fun k => (V4 m ρ c main_v5 : Vec Ideal S1x1024 .f32) (ix2 0 k)) = _ from funext fun k => v5_apply m ρ c k,
    show (fun k => (V4 m ρ c main_v6 : Vec Ideal S1x1024 .f32) (ix2 0 k)) = _ from funext fun k => v6_apply m ρ c k,
    show (fun k => (V4 m ρ c main_v7 : Vec Ideal S1x1024 .f32) (ix2 0 k)) = _ from funext fun k => v7_apply m ρ c k,
    show (fun k => (V4 m ρ c main_v8 : Vec Ideal S1x4096 .f32) (ix2 0 k)) = _ from funext fun k => v8_apply m ρ c k,
    show (fun k => (V4 m ρ c main_v9 : Vec Ideal S1x1024 .f32) (ix2 0 k)) = _ from funext fun k => v9_apply m ρ c k,
    show V4 m ρ c main_arg6 = _ from W4_args m ρ c main_arg6 (by simp),
    show V4 m ρ c main_arg10 = _ from W4_args m ρ c main_arg10 (by simp),
    show V4 m ρ c main_arg12 = _ from W4_args m ρ c main_arg12 (by simp)]
  rfl

end Cert.Proof.KernelValue

end
end
-- ==== Proof.RefScores.lean ====
/- The reference's normalised input, its projections and its scores read at an index. -/
module

public import proofs.«01_k».proof.Proof.Whole
public import proofs.«01_k».proof.Proof.Row
public import proofs.«01_k».proof.Proof.Consts
public import proofs.«01_k».proof.Proof.Gen.ReferenceIdeal.Read

@[expose] public section

set_option maxRecDepth 16384

noncomputable section

namespace Cert.Proof.RefScores

open Cert.ReferenceIdeal Cert.ReferenceIdeal.Gen Cert.ReferenceIdeal.Read Cert.Proof.Spec
open Idealize.ShloMosaic Idealize.ShloMosaic.TcCoe Idealize.SL.Sem Idealize.ShloMosaic.StableHlo

variable (x0 : FVec Ideal S1x2048x1024 .f32) (x1 x2 : FVec Ideal S1024 .f32) (x3 x4 x5 : FVec Ideal S1024x1024 .f32)

/-- The mean of an input row. -/
theorem v3_apply (n : Fin 2048) : val_main_v3 (F := Ideal) x0 (ix3 0 n 0) = mean (rows x0 n) := by
  unfold mean
  pointwise [val_main_v0, val_main_v1, val_main_v2, val_main_v3, val_main_cst, val_main_cst_0]

/-- The normalised input. -/
theorem v23_apply (n : Fin 2048) (j : Fin 1024) :
    val_main_v23 (F := Ideal) x0 x1 x2 (ix3 0 n j) = ln (rows x0 n) (vec x1) (vec x2) j := by
  unfold ln mean
  pointwise [val_main_v0, val_main_v1, val_main_v2, val_main_v3, val_main_v4, val_main_v5, val_main_v6, val_main_v7, val_main_v8,
    val_main_v9, val_main_v10, val_main_v11, val_main_v12, val_main_v13, val_main_v14, val_main_v15, val_main_v16, val_main_v17,
    val_main_v18, val_main_v19, val_main_v20, val_main_v21, val_main_v22, val_main_v23, val_main_cst, val_main_cst_0, val_main_cst_1,
    val_main_cst_2, val_main_cst_3]

/-- The query projection. -/
theorem v25_apply (n : Fin 2048) (j : Fin 1024) :
    val_main_v25 (F := Ideal) x0 x1 x2 x3 (ix3 0 n j) = proj (rows x0) (vec x1) (vec x2) (mat x3) n j := by
  unfold proj dot
  simp only [← v23_apply]
  unfold val_main_v25
  generalize val_main_v23 (F := Ideal) x0 x1 x2 = y
  pointwise [val_main_v24]

/-- The key projection. -/
theorem v29_apply (n : Fin 2048) (j : Fin 1024) :
    val_main_v29 (F := Ideal) x0 x1 x2 x4 (ix3 0 n j) = proj (rows x0) (vec x1) (vec x2) (mat x4) n j := by
  unfold proj dot
  simp only [← v23_apply]
  unfold val_main_v29
  generalize val_main_v23 (F := Ideal) x0 x1 x2 = y
  pointwise [val_main_v28]

/-- The value projection. -/
theorem v33_apply (n : Fin 2048) (j : Fin 1024) :
    val_main_v33 (F := Ideal) x0 x1 x2 x5 (ix3 0 n j) = proj (rows x0) (vec x1) (vec x2) (mat x5) n j := by
  unfold proj dot
  simp only [← v23_apply]
  unfold val_main_v33
  generalize val_main_v23 (F := Ideal) x0 x1 x2 = y
  pointwise [val_main_v32]

/-- The column of a head's entry in the row-major order. -/
theorem col_eq (h : Fin 16) (d : Fin 64) (hlt : h.val * 64 + d.val < 1024) :
    (⟨h.val * 64 + d.val, hlt⟩ : Fin 1024) = col h d :=
  Fin.ext (congrArg (· + d.val) (Nat.mul_comm _ _))

/-- A head's queries. -/
theorem v37_apply (h : Fin 16) (n : Fin 2048) (d : Fin 64) :
    val_main_v37 (F := Ideal) x0 x1 x2 x3 (ix3 h n d) = proj (rows x0) (vec x1) (vec x2) (mat x3) n (col h d) := by
  rw [← v25_apply]
  unfold val_main_v37 val_main_v27 val_main_v26
  generalize val_main_v25 (F := Ideal) x0 x1 x2 x3 = y
  pointwise
  rw [col_eq]

/-- A head's keys, transposed. -/
theorem v38_apply (h : Fin 16) (n : Fin 2048) (d : Fin 64) :
    val_main_v38 (F := Ideal) x0 x1 x2 x4 (ix3 h d n) = proj (rows x0) (vec x1) (vec x2) (mat x4) n (col h d) := by
  rw [← v29_apply]
  unfold val_main_v38 val_main_v36 val_main_v31 val_main_v30
  generalize val_main_v29 (F := Ideal) x0 x1 x2 x4 = y
  pointwise
  rw [col_eq]

/-- A head's values. -/
theorem v91_apply (h : Fin 16) (n : Fin 2048) (d : Fin 64) :
    val_main_v91 (F := Ideal) x0 x1 x2 x5 (ix3 h n d) = proj (rows x0) (vec x1) (vec x2) (mat x5) n (col h d) := by
  rw [← v33_apply]
  unfold val_main_v91 val_main_v35 val_main_v34
  generalize val_main_v33 (F := Ideal) x0 x1 x2 x5 = y
  pointwise
  rw [col_eq]

/-- The scores of a head's row. -/
theorem v42_apply (h : Fin 16) (n j : Fin 2048) :
    val_main_v42 (F := Ideal) x0 x1 x2 x3 x4 (ix4 0 h n j)
      = scores (proj (rows x0) (vec x1) (vec x2) (mat x3)) (proj (rows x0) (vec x1) (vec x2) (mat x4)) h n j := by
  have hq : (fun d => proj (rows x0) (vec x1) (vec x2) (mat x3) n (col h d))
      = fun d => val_main_v37 (F := Ideal) x0 x1 x2 x3 (ix3 h n d) := funext fun d => (v37_apply x0 x1 x2 x3 h n d).symm
  have hk : (fun d => proj (rows x0) (vec x1) (vec x2) (mat x4) j (col h d))
      = fun d => val_main_v38 (F := Ideal) x0 x1 x2 x4 (ix3 h d j) := funext fun d => (v38_apply x0 x1 x2 x4 h j d).symm
  unfold scores
  rw [hq, hk]
  unfold dotScore dot
  clear hq hk
  unfold val_main_v42 val_main_v40 val_main_v39
  generalize val_main_v37 (F := Ideal) x0 x1 x2 x3 = q
  generalize val_main_v38 (F := Ideal) x0 x1 x2 x4 = k
  pointwise [val_main_v41, val_main_cst_4]

end Cert.Proof.RefScores

end
end
-- ==== Proof.TopK.lean ====
/- The greatest and the least entry and the ordered greatest entries of each row of a rank-4 array. -/
module

public import proofs.«01_k».proof.Proof.Row
public import proofs.«01_k».proof.Proof.Whole
public import Idealize.ShloMosaic.Lib.Pointwise

@[expose] public section

set_option maxRecDepth 16384

noncomputable section

namespace Cert.Proof.TopK

open Idealize.ShloMosaic

/-- The greatest entry of a row, started from the least value. -/
theorem reduceMax {n0 n1 n2 n3 : ℕ} {u : Shape} (x : FVec Ideal ⟨4, ![n0, n1, n2, n3]⟩ .f32) (init : FVec Ideal u .f32)
    (r : Shape.ReducesTo ⟨4, ![n0, n1, n2, n3]⟩ [3] ⟨3, ![n0, n1, n2]⟩) (hu : 0 < u.numel) (hi : ∀ i, init i = ⊥)
    (a : Fin n0) (b : Fin n1) (c : Fin n2) :
    Host.reduce FloatOps.maximumf x init r hu (ix3 a b c) = Finset.univ.sup fun j => x (ix4 a b c j) := by
  pointwise
  simp only [hi]
  rfl

/-- The least entry of a row, started from the greatest value. -/
theorem reduceMin {n0 n1 n2 n3 : ℕ} {u : Shape} (x : FVec Ideal ⟨4, ![n0, n1, n2, n3]⟩ .f32) (init : FVec Ideal u .f32)
    (r : Shape.ReducesTo ⟨4, ![n0, n1, n2, n3]⟩ [3] ⟨3, ![n0, n1, n2]⟩) (hu : 0 < u.numel) (hi : ∀ i, init i = ⊤)
    (a : Fin n0) (b : Fin n1) (c : Fin n2) :
    Host.reduce FloatOps.minimumf x init r hu (ix3 a b c) = Finset.univ.inf fun j => x (ix4 a b c j) := by
  pointwise
  simp only [hi]
  rfl

variable {K : ℕ} (hK : K ≤ 2048) (p : FVec Ideal ⟨4, ![1, 16, 2048, 2048]⟩ .f32)
  (fit : Shape.Slices ⟨4, ![1, 16, 2048, 2048]⟩ (fun _ => 0) ⟨4, ![1, 16, 2048, K]⟩) (h : Fin 16) (n : Fin 2048) (k : Fin K)

/-- Moving along the last axis changes the last coordinate. -/
theorem along_last (j : Fin 2048) (j' : Fin 2048) :
    (ix4 (0 : Fin 1) h n j : Shape.Idx ⟨4, ![1, 16, 2048, 2048]⟩).along (3 : Fin 4) j' = ix4 0 h n j' := by
  funext a
  fin_cases a <;> rfl

/-- The slice at the origin reads the index it is given. -/
theorem slice_apply {α : Type} (x : Shape.Idx ⟨4, ![1, 16, 2048, 2048]⟩ → α) :
    extractStridedSlice ⟨4, ![1, 16, 2048, K]⟩ (fun _ => 0) x fit (ix4 0 h n k) = x (ix4 0 h n (k.castLE hK)) := by
  unfold extractStridedSlice
  congr 1
  funext a
  apply Fin.ext
  fin_cases a <;> simp <;> rfl

/-- The `k`-th of a row's greatest entries is the entry at the `k`-th position of the row's order. -/
theorem values_apply :
    (Host.topK ⟨4, ![1, 16, 2048, K]⟩ 3 (FloatOps.cmpfTotal .gt) p fit).1 (ix4 0 h n k)
      = p (ix4 0 h n (Row.order (fun j => p (ix4 0 h n j)) (k.castLE hK))) := by
  unfold Host.topK
  dsimp only
  rw [slice_apply hK]
  unfold Host.sort2
  rw [dif_pos (by decide : 3 < 4)]
  dsimp only
  refine (congrArg p (along_last h n _ _)).trans (congrArg (fun o => p (ix4 0 h n o)) ?_)
  exact congrArg (fun b => sortedFrom b (k.castLE hK)) (funext fun a => funext fun b =>
    congrArg₂ (fun u w => FloatOps.cmpfTotal (F := Ideal) (φ := .f32) .gt u w == 1#1)
      (congrArg p (along_last h n _ _)) (congrArg p (along_last h n _ _)))

/-- The position of the `k`-th of a row's greatest entries. -/
theorem indices_apply :
    (Host.topK ⟨4, ![1, 16, 2048, K]⟩ 3 (FloatOps.cmpfTotal .gt) p fit).2 (ix4 0 h n k)
      = BitVec.ofNat 32 (Row.order (fun j => p (ix4 0 h n j)) (k.castLE hK)).val := by
  unfold Host.topK
  dsimp only
  rw [slice_apply hK]
  unfold Host.sort2
  rw [dif_pos (by decide : 3 < 4)]
  dsimp only
  refine (congrArg (iotaInDim ⟨4, ![1, 16, 2048, 2048]⟩ 32 (3 : Fin 4)) (along_last h n _ _)).trans
    (congrArg (fun o : Fin 2048 => BitVec.ofNat 32 o.val) ?_)
  exact congrArg (fun b => sortedFrom b (k.castLE hK)) (funext fun a => funext fun b =>
    congrArg₂ (fun u w => FloatOps.cmpfTotal (F := Ideal) (φ := .f32) .gt u w == 1#1)
      (congrArg p (along_last h n _ _)) (congrArg p (along_last h n _ _)))

end Cert.Proof.TopK

end
end
-- ==== Proof.RefSoftmax.lean ====
/- The reference's softmax read at an index. -/
module

public import proofs.«01_k».proof.Proof.Whole
public import proofs.«01_k».proof.Proof.RefScores
public import proofs.«01_k».proof.Proof.TopK
public import proofs.«01_k».proof.Proof.Consts
public import proofs.«01_k».proof.Proof.Gen.ReferenceIdeal.Read

@[expose] public section

set_option maxRecDepth 16384

noncomputable section

namespace Cert.Proof.RefSoftmax

open Cert.ReferenceIdeal Cert.ReferenceIdeal.Gen Cert.ReferenceIdeal.Read Cert.Proof.Spec
open Idealize.ShloMosaic Idealize.ShloMosaic.TcCoe Idealize.SL.Sem Idealize.ShloMosaic.StableHlo

variable (x0 : FVec Ideal S1x2048x1024 .f32) (x1 x2 : FVec Ideal S1024 .f32) (x3 x4 x5 : FVec Ideal S1024x1024 .f32)

/-- The greatest score of a head's row. -/
theorem v43_apply (h : Fin 16) (n : Fin 2048) :
    val_main_v43 (F := Ideal) x0 x1 x2 x3 x4 (ix3 0 h n)
      = Row.top (fun j => val_main_v42 (F := Ideal) x0 x1 x2 x3 x4 (ix4 0 h n j)) := by
  unfold val_main_v43
  generalize val_main_v42 (F := Ideal) x0 x1 x2 x3 x4 = s
  exact TopK.reduceMax s _ _ _ (fun _ => Consts.ninf_val) 0 h n

/-- The weights of a row of scores, before normalisation. -/
theorem v49_apply (h : Fin 16) (n j : Fin 2048) :
    val_main_v49 (F := Ideal) x0 x1 x2 x3 x4 (ix4 0 h n j)
      = Row.wt (fun j => val_main_v42 (F := Ideal) x0 x1 x2 x3 x4 (ix4 0 h n j)) j := by
  have hi : idx_main_v46 (idx_main_v47 (ix4 (0 : Fin 1) h n j)) = ix3 0 h n := by
    funext a
    fin_cases a <;> rfl
  have hm : val_main_v45 (F := Ideal) x0 x1 x2 x3 x4 (ix3 0 h n) = val_main_v43 (F := Ideal) x0 x1 x2 x3 x4 (ix3 0 h n) := by
    rw [val_main_v45_apply, val_main_v44_apply, val_main_cst_6_apply]
    generalize val_main_v43 (F := Ideal) x0 x1 x2 x3 x4 (ix3 0 h n) = t
    show max (Ideal.ofBits .f32 0xFF800000#32) t = t
    rw [Consts.ninf_val, max_eq_right bot_le]
  unfold Row.wt
  rw [val_main_v49_apply, val_main_v48_apply, val_main_v47_apply, val_main_v46_apply, hi, hm, ← v43_apply]
  rfl

/-- The sum of a row's weights. -/
theorem v52_apply (h : Fin 16) (n j : Fin 2048) :
    val_main_v52 (F := Ideal) x0 x1 x2 x3 x4 (ix4 0 h n j)
      = Row.den (fun j => val_main_v42 (F := Ideal) x0 x1 x2 x3 x4 (ix4 0 h n j)) := by
  unfold Row.den
  simp only [← v49_apply]
  unfold val_main_v52 val_main_v51 val_main_v50
  generalize val_main_v49 (F := Ideal) x0 x1 x2 x3 x4 = s
  pointwise [val_main_cst_7]

/-- The softmax of a head's row. -/
theorem v53_apply (h : Fin 16) (n j : Fin 2048) :
    val_main_v53 (F := Ideal) x0 x1 x2 x3 x4 (ix4 0 h n j)
      = Row.attn (scores (proj (rows x0) (vec x1) (vec x2) (mat x3)) (proj (rows x0) (vec x1) (vec x2) (mat x4)) h n) j := by
  have hs : scores (proj (rows x0) (vec x1) (vec x2) (mat x3)) (proj (rows x0) (vec x1) (vec x2) (mat x4)) h n
      = fun j => val_main_v42 (F := Ideal) x0 x1 x2 x3 x4 (ix4 0 h n j) :=
    funext fun j => (RefScores.v42_apply x0 x1 x2 x3 x4 h n j).symm
  rw [hs]
  unfold Row.attn
  rw [← v49_apply, ← v52_apply x0 x1 x2 x3 x4 h n j]
  rfl

end Cert.Proof.RefSoftmax

end
end
-- ==== Proof.RefAttn.lean ====
/- The reference's kept softmax entries, put back at their places, and the attention they give, read at an index. -/
module

public import proofs.«01_k».proof.Proof.RefSoftmax
public import Idealize.ShloMosaic.Lib.Routing.OpsSet

@[expose] public section

set_option maxRecDepth 16384

noncomputable section

namespace Cert.Proof.RefAttn

open Cert.ReferenceIdeal Cert.ReferenceIdeal.Gen Cert.ReferenceIdeal.Read Cert.Proof.Spec
open Idealize.ShloMosaic Idealize.ShloMosaic.TcCoe Idealize.SL.Sem Idealize.ShloMosaic.StableHlo

variable (x0 : FVec Ideal S1x2048x1024 .f32) (x1 x2 : FVec Ideal S1024 .f32) (x3 x4 x5 : FVec Ideal S1024x1024 .f32)

/-- An index word below half of the word range is itself after the wrap of negative words, and reads as its number. -/
theorem word (x : ℕ) (hx : x < 2048) (a : BitVec 32) :
    (Scalar.select (IntOp.cmpi .slt (BitVec.ofNat 32 x) 0#32) a (BitVec.ofNat 32 x)).toInt = (x : Int) := by
  have hn : (BitVec.ofNat 32 x).toNat = x := by
    rw [BitVec.toNat_ofNat]
    exact Nat.mod_eq_of_lt (by omega)
  rw [Routing.wrap_of_lt _ _ (by rw [hn]; omega), BitVec.toInt_eq_toNat_cond, hn, if_pos (by omega)]

/-- An update lands where its four index words, read signed, say. -/
theorem lands (idx : IVec S1x16x2048x204x4 32) (k : S1x16x2048x204.Idx) (ι : S1x16x2048x2048.Idx) :
    scatter_S1x16x2048x2048_S1x16x2048x204x4_S1x16x2048x204_n_0123_0123_4.resultIdx? k idx = some ι
      ↔ ∀ q : Fin 4, (idx (ix5 (k 0) (k 1) (k 2) (k 3) q)).toInt = ((ι q).val : Int) := by
  rw [Routing.resultIdx?_eq_some]
  refine forall_congr' fun q => ?_
  have hw : scatter_S1x16x2048x2048_S1x16x2048x204x4_S1x16x2048x204_n_0123_0123_4.window k q = 0 := by
    unfold ScatterDims.window
    rw [dif_neg]
    fin_cases q <;> decide
  have hs : scatter_S1x16x2048x2048_S1x16x2048x204x4_S1x16x2048x204_n_0123_0123_4.start k idx q
      = (idx (ix5 (k 0) (k 1) (k 2) (k 3) q)).toInt := by
    unfold ScatterDims.start
    rw [dif_pos (by fin_cases q <;> decide)]
    congr 2
    funext b
    fin_cases q <;> fin_cases b <;> rfl
  rw [hs, hw]
  simp

/-- The first index word of an update is zero. -/
theorem word0 (h : Fin 16) (n : Fin 2048) (k : Fin 204) :
    (val_main_v88 (F := Ideal) x0 x1 x2 x3 x4 (ix5 0 h n k 0)).toInt = ((0 : ℕ) : Int) := by
  have e : val_main_v88 (F := Ideal) x0 x1 x2 x3 x4 (ix5 0 h n k 0) = val_main_v84 (F := Ideal) (ix5 0 h n k 0) := by
    unfold val_main_v88
    generalize val_main_v84 (F := Ideal) = a
    generalize val_main_v85 (F := Ideal) = b
    generalize val_main_v86 (F := Ideal) = c
    generalize val_main_v87 (F := Ideal) x0 x1 x2 x3 x4 = d
    pointwise
  rw [e, val_main_v84_apply, val_main_v81_apply, val_main_v65_apply, val_main_v62_apply, val_main_v55_apply, val_main_v54_apply,
    val_main_v61_apply]
  exact word 0 (by decide) _

/-- The second index word of an update is its head. -/
theorem word1 (h : Fin 16) (n : Fin 2048) (k : Fin 204) :
    (val_main_v88 (F := Ideal) x0 x1 x2 x3 x4 (ix5 0 h n k 1)).toInt = (h.val : Int) := by
  have e : val_main_v88 (F := Ideal) x0 x1 x2 x3 x4 (ix5 0 h n k 1) = val_main_v85 (F := Ideal) (ix5 0 h n k 0) := by
    unfold val_main_v88
    generalize val_main_v84 (F := Ideal) = a
    generalize val_main_v85 (F := Ideal) = b
    generalize val_main_v86 (F := Ideal) = c
    generalize val_main_v87 (F := Ideal) x0 x1 x2 x3 x4 = d
    pointwise
  rw [e, val_main_v85_apply, val_main_v82_apply, val_main_v70_apply, val_main_v67_apply, val_main_v57_apply, val_main_v56_apply,
    val_main_v66_apply]
  exact word h.val (by omega) _

/-- The third index word of an update is its row. -/
theorem word2 (h : Fin 16) (n : Fin 2048) (k : Fin 204) :
    (val_main_v88 (F := Ideal) x0 x1 x2 x3 x4 (ix5 0 h n k 2)).toInt = (n.val : Int) := by
  have e : val_main_v88 (F := Ideal) x0 x1 x2 x3 x4 (ix5 0 h n k 2) = val_main_v86 (F := Ideal) (ix5 0 h n k 0) := by
    unfold val_main_v88
    generalize val_main_v84 (F := Ideal) = a
    generalize val_main_v85 (F := Ideal) = b
    generalize val_main_v86 (F := Ideal) = c
    generalize val_main_v87 (F := Ideal) x0 x1 x2 x3 x4 = d
    pointwise
  rw [e, val_main_v86_apply, val_main_v83_apply, val_main_v75_apply, val_main_v72_apply, val_main_v59_apply, val_main_v58_apply,
    val_main_v71_apply]
  exact word n.val n.isLt _

/-- The fourth index word of an update is the position of its entry in the row. -/
theorem word3 (h : Fin 16) (n : Fin 2048) (k : Fin 204) :
    (val_main_v88 (F := Ideal) x0 x1 x2 x3 x4 (ix5 0 h n k 3)).toInt
      = ((Row.order (fun j => val_main_v53 (F := Ideal) x0 x1 x2 x3 x4 (ix4 0 h n j)) (k.castLE (by decide))).val : Int) := by
  have e : val_main_v88 (F := Ideal) x0 x1 x2 x3 x4 (ix5 0 h n k 3) = val_main_v87 (F := Ideal) x0 x1 x2 x3 x4 (ix5 0 h n k 0) := by
    unfold val_main_v88
    generalize val_main_v84 (F := Ideal) = a
    generalize val_main_v85 (F := Ideal) = b
    generalize val_main_v86 (F := Ideal) = c
    generalize val_main_v87 (F := Ideal) x0 x1 x2 x3 x4 = d
    pointwise
  have hi : idx_main_v87 (ix5 (0 : Fin 1) h n k 0) = ix4 0 h n k := by
    funext a
    fin_cases a <;> rfl
  rw [e, val_main_v87_apply, hi, val_main_v80_apply, val_main_v77_apply, val_main_v76_apply]
  have hx : val_main_indices (F := Ideal) x0 x1 x2 x3 x4 (ix4 0 h n k)
      = BitVec.ofNat 32 (Row.order (fun j => val_main_v53 (F := Ideal) x0 x1 x2 x3 x4 (ix4 0 h n j)) (k.castLE (by decide))).val := by
    unfold val_main_indices
    exact TopK.indices_apply _ _ _ h n k
  rw [hx]
  exact word _ (Fin.isLt _) _

open Classical in
/-- The kept softmax entries at their places, zero elsewhere. -/
theorem v89_apply (h : Fin 16) (n j : Fin 2048) :
    val_main_v89 (F := Ideal) x0 x1 x2 x3 x4 (ix4 0 h n j)
      = if Row.Kept (fun j => val_main_v53 (F := Ideal) x0 x1 x2 x3 x4 (ix4 0 h n j)) j
        then val_main_v53 (F := Ideal) x0 x1 x2 x3 x4 (ix4 0 h n j) else 0 := by
  have hk : ∀ k : S1x16x2048x204.Idx, scatter_S1x16x2048x2048_S1x16x2048x204x4_S1x16x2048x204_n_0123_0123_4.resultIdx? k
        (val_main_v88 (F := Ideal) x0 x1 x2 x3 x4) = some (ix4 0 h n j)
      ↔ ∃ k' : Fin 204, k = ix4 0 h n k' ∧
        Row.order (fun j => val_main_v53 (F := Ideal) x0 x1 x2 x3 x4 (ix4 0 h n j)) (k'.castLE (by decide)) = j := by
    intro k
    rw [lands]
    constructor
    · intro q
      obtain ⟨z, a, b, c, rfl⟩ : ∃ (z : Fin 1) (a : Fin 16) (b : Fin 2048) (c : Fin 204), k = ix4 z a b c :=
        ⟨k 0, k 1, k 2, k 3, eq_ix4 k⟩
      obtain rfl : z = 0 := Subsingleton.elim _ _
      have e1 : a = h := Fin.ext (by exact_mod_cast (word1 x0 x1 x2 x3 x4 a b c).symm.trans (q 1))
      have e2 : b = n := Fin.ext (by exact_mod_cast (word2 x0 x1 x2 x3 x4 a b c).symm.trans (q 2))
      subst e1 e2
      exact ⟨c, rfl, Fin.ext (by exact_mod_cast (word3 x0 x1 x2 x3 x4 a b c).symm.trans (q 3))⟩
    · rintro ⟨k', rfl, hj⟩ q
      fin_cases q
      · exact word0 x0 x1 x2 x3 x4 h n k'
      · exact word1 x0 x1 x2 x3 x4 h n k'
      · exact word2 x0 x1 x2 x3 x4 h n k'
      · refine (word3 x0 x1 x2 x3 x4 h n k').trans ?_
        rw [hj]
        rfl
  have hv : ∀ k' : Fin 204, val_main_values (F := Ideal) x0 x1 x2 x3 x4 (ix4 0 h n k')
      = val_main_v53 (F := Ideal) x0 x1 x2 x3 x4 (ix4 0 h n
          (Row.order (fun j => val_main_v53 (F := Ideal) x0 x1 x2 x3 x4 (ix4 0 h n j)) (k'.castLE (by decide)))) := fun k' => by
    unfold val_main_values
    exact TopK.values_apply _ _ _ h n k'
  unfold val_main_v89
  by_cases hK : Row.Kept (fun j => val_main_v53 (F := Ideal) x0 x1 x2 x3 x4 (ix4 0 h n j)) j
  · rw [if_pos hK]
    obtain ⟨k', hk'⟩ := hK
    refine Routing.scatter_set_hit _ _ _ _ _ _ (fun k q => ?_) (ix4 0 h n k') ((hk _).2 ⟨k', rfl, hk'⟩)
    obtain ⟨k'', rfl, hj⟩ := (hk k).1 q
    rw [hv, hj]
  · rw [if_neg hK, Routing.scatter_set_miss _ _ _ _ _ (fun k q => hK (by
      obtain ⟨k', _, hj⟩ := (hk k).1 q
      exact ⟨k', hj⟩))]
    rw [val_main_v60_apply, val_main_cst_8_apply]
    exact Ideal.ofBits_zero .f32

/-- The attention of a head's row, at a column of the head. -/
theorem v92_apply (h : Fin 16) (n : Fin 2048) (d : Fin 64) :
    val_main_v92 (F := Ideal) x0 x1 x2 x3 x4 x5 (ix3 h n d)
      = Row.refRow (scores (proj (rows x0) (vec x1) (vec x2) (mat x3)) (proj (rows x0) (vec x1) (vec x2) (mat x4)) h n)
          (fun j => proj (rows x0) (vec x1) (vec x2) (mat x5) j (col h d)) := by
  have hs : Row.attn (scores (proj (rows x0) (vec x1) (vec x2) (mat x3)) (proj (rows x0) (vec x1) (vec x2) (mat x4)) h n)
      = fun j => val_main_v53 (F := Ideal) x0 x1 x2 x3 x4 (ix4 0 h n j) :=
    funext fun j => (RefSoftmax.v53_apply x0 x1 x2 x3 x4 h n j).symm
  have hv : (fun j => proj (rows x0) (vec x1) (vec x2) (mat x5) j (col h d))
      = fun j => val_main_v91 (F := Ideal) x0 x1 x2 x5 (ix3 h j d) :=
    funext fun j => (RefScores.v91_apply x0 x1 x2 x5 h j d).symm
  unfold Row.refRow
  rw [hs]
  have hm : ∀ j, val_main_v89 (F := Ideal) x0 x1 x2 x3 x4 (ix4 0 h n j) = _ := v89_apply x0 x1 x2 x3 x4 h n
  have hd : val_main_v92 (F := Ideal) x0 x1 x2 x3 x4 x5 (ix3 h n d)
      = ∑ j : Fin 2048, val_main_v89 (F := Ideal) x0 x1 x2 x3 x4 (ix4 0 h n j) * val_main_v91 (F := Ideal) x0 x1 x2 x5 (ix3 h j d) := by
    clear hm hv hs
    unfold val_main_v92 val_main_v90
    generalize val_main_v89 (F := Ideal) x0 x1 x2 x3 x4 = a
    generalize val_main_v91 (F := Ideal) x0 x1 x2 x5 = b
    pointwise
  rw [hd]
  refine Finset.sum_congr rfl fun j _ => ?_
  rw [hm j, RefScores.v91_apply x0 x1 x2 x5 h j d]

/-- The attention output at row `n`, column `i`. -/
theorem v95_apply (n : Fin 2048) (i : Fin 1024) :
    val_main_v95 (F := Ideal) x0 x1 x2 x3 x4 x5 (ix3 0 n i)
      = att Row.refRow (proj (rows x0) (vec x1) (vec x2) (mat x3)) (proj (rows x0) (vec x1) (vec x2) (mat x4))
          (proj (rows x0) (vec x1) (vec x2) (mat x5)) n i := by
  have hc : col (head i) ⟨i.val % 64, Nat.mod_lt _ (by decide)⟩ = i := Fin.ext (Nat.div_add_mod i.val 64)
  have hd : val_main_v95 (F := Ideal) x0 x1 x2 x3 x4 x5 (ix3 0 n i)
      = val_main_v92 (F := Ideal) x0 x1 x2 x3 x4 x5 (ix3 (head i) n ⟨i.val % 64, Nat.mod_lt _ (by decide)⟩) := by
    unfold val_main_v95 val_main_v94 val_main_v93
    generalize val_main_v92 (F := Ideal) x0 x1 x2 x3 x4 x5 = a
    pointwise
    try rfl
  rw [hd, v92_apply, hc]
  rfl

end Cert.Proof.RefAttn

end
end
-- ==== Proof.RefValue.lean ====
/- The reference's residual, its feed-forward part and its whole result, read at an index. -/
module

public import proofs.«01_k».proof.Proof.RefAttn

@[expose] public section

set_option maxRecDepth 16384

noncomputable section

namespace Cert.Proof.RefValue

open Cert.ReferenceIdeal Cert.ReferenceIdeal.Gen Cert.ReferenceIdeal.Read Cert.Proof.Spec
open Idealize.ShloMosaic Idealize.ShloMosaic.TcCoe Idealize.SL.Sem Idealize.ShloMosaic.StableHlo

variable (x0 : FVec Ideal S1x2048x1024 .f32) (x1 x2 : FVec Ideal S1024 .f32) (x3 x4 x5 x6 : FVec Ideal S1024x1024 .f32)
  (x7 x8 x9 : FVec Ideal S1024 .f32) (x10 : FVec Ideal S4096x1024 .f32) (x11 : FVec Ideal S4096 .f32)
  (x12 : FVec Ideal S1024x4096 .f32) (x13 : FVec Ideal S1024 .f32)

/-- The residual: the input, the projected attention and the bias. -/
theorem v101_apply (n : Fin 2048) (j : Fin 1024) :
    val_main_v101 (F := Ideal) x0 x1 x2 x3 x4 x5 x6 x7 (ix3 0 n j)
      = resid (rows x0 n) (att Row.refRow (proj (rows x0) (vec x1) (vec x2) (mat x3)) (proj (rows x0) (vec x1) (vec x2) (mat x4))
          (proj (rows x0) (vec x1) (vec x2) (mat x5)) n) (mat x6) (vec x7) j := by
  have ha : att Row.refRow (proj (rows x0) (vec x1) (vec x2) (mat x3)) (proj (rows x0) (vec x1) (vec x2) (mat x4))
      (proj (rows x0) (vec x1) (vec x2) (mat x5)) n = fun i => val_main_v95 (F := Ideal) x0 x1 x2 x3 x4 x5 (ix3 0 n i) :=
    funext fun i => (RefAttn.v95_apply x0 x1 x2 x3 x4 x5 n i).symm
  rw [ha]
  have hd : val_main_v97 (F := Ideal) x0 x1 x2 x3 x4 x5 x6 (ix3 0 n j)
      = dot (fun i => val_main_v95 (F := Ideal) x0 x1 x2 x3 x4 x5 (ix3 0 n i)) (mat x6 j) := by
    clear ha
    unfold val_main_v97
    generalize val_main_v95 (F := Ideal) x0 x1 x2 x3 x4 x5 = a
    unfold dot
    pointwise [val_main_v96]
  have hb : val_main_v99 (F := Ideal) x7 (ix3 0 n j) = vec x7 j := by
    pointwise [val_main_v98, val_main_v99]
  rw [val_main_v101_apply, val_main_v100_apply, hd, hb]
  exact (add_assoc _ _ _).symm

/-- The normalised residual. -/
theorem v125_apply (n : Fin 2048) (j : Fin 1024) :
    val_main_v125 (F := Ideal) x0 x1 x2 x3 x4 x5 x6 x7 x8 x9 (ix3 0 n j)
      = ln (fun i => val_main_v101 (F := Ideal) x0 x1 x2 x3 x4 x5 x6 x7 (ix3 0 n i)) (vec x8) (vec x9) j := by
  unfold val_main_v125 val_main_v122 val_main_v119 val_main_v118 val_main_v117 val_main_v116 val_main_v114 val_main_v113
    val_main_v112 val_main_v111 val_main_v110 val_main_v109 val_main_v108 val_main_v107 val_main_v106
    val_main_v105 val_main_v104 val_main_v103 val_main_v102
  generalize val_main_v101 (F := Ideal) x0 x1 x2 x3 x4 x5 x6 x7 = y
  unfold ln mean
  pointwise [val_main_cst_16, val_main_cst_17, val_main_cst_18, val_main_cst_19, val_main_cst_20, val_main_v115, val_main_v120, val_main_v121, val_main_v123, val_main_v124, val_main_v103, val_main_v110]

/-- The hidden layer before its activation. -/
theorem v130_apply (n : Fin 2048) (k : Fin 4096) :
    val_main_v130 (F := Ideal) x0 x1 x2 x3 x4 x5 x6 x7 x8 x9 x10 x11 (ix3 0 n k)
      = dot (ln (fun i => val_main_v101 (F := Ideal) x0 x1 x2 x3 x4 x5 x6 x7 (ix3 0 n i)) (vec x8) (vec x9)) (mat x10 k) + vec x11 k := by
  unfold dot
  simp only [← v125_apply]
  unfold val_main_v130 val_main_v127
  generalize val_main_v125 (F := Ideal) x0 x1 x2 x3 x4 x5 x6 x7 x8 x9 = y
  pointwise [val_main_v126, val_main_v128, val_main_v129]

/-- The hidden layer after its activation. -/
theorem v137_apply (n : Fin 2048) (k : Fin 4096) :
    val_main_v137 (F := Ideal) x0 x1 x2 x3 x4 x5 x6 x7 x8 x9 x10 x11 (ix3 0 n k)
      = gelu (val_main_v130 (F := Ideal) x0 x1 x2 x3 x4 x5 x6 x7 x8 x9 x10 x11 (ix3 0 n k)) := by
  unfold val_main_v137 val_main_v136 val_main_v135 val_main_v133 val_main_v132
  generalize val_main_v130 (F := Ideal) x0 x1 x2 x3 x4 x5 x6 x7 x8 x9 x10 x11 = y
  unfold gelu
  pointwise [val_main_v131, val_main_v134, val_main_cst_21, val_main_cst_22]
  simp only [neg_mul, Ideal.erfc_neg, Ideal.erf_def]

/-- The reference's result. -/
theorem v143_apply (n : Fin 2048) (j : Fin 1024) :
    val_main_v143 (F := Ideal) x0 x1 x2 x3 x4 x5 x6 x7 x8 x9 x10 x11 x12 x13 (ix3 0 n j)
      = ffn (fun i => val_main_v101 (F := Ideal) x0 x1 x2 x3 x4 x5 x6 x7 (ix3 0 n i)) (vec x8) (vec x9) (mat x10) (vec x11)
          (mat x12) (vec x13) j := by
  have hg : (fun m => gelu (dot (ln (fun i => val_main_v101 (F := Ideal) x0 x1 x2 x3 x4 x5 x6 x7 (ix3 0 n i)) (vec x8) (vec x9))
      (mat x10 m) + vec x11 m)) = fun m => val_main_v137 (F := Ideal) x0 x1 x2 x3 x4 x5 x6 x7 x8 x9 x10 x11 (ix3 0 n m) :=
    funext fun m => by rw [v137_apply, v130_apply]
  unfold ffn
  rw [hg]
  clear hg
  unfold val_main_v143 val_main_v142 val_main_v139
  generalize val_main_v137 (F := Ideal) x0 x1 x2 x3 x4 x5 x6 x7 x8 x9 x10 x11 = u
  generalize val_main_v101 (F := Ideal) x0 x1 x2 x3 x4 x5 x6 x7 = y
  unfold dot
  rw [add_assoc]
  pointwise [val_main_v138, val_main_v140, val_main_v141]

/-- The reference's result is the whole block with the reference's way of weighting a row. -/
theorem v143_eq :
    val_main_v143 (F := Ideal) x0 x1 x2 x3 x4 x5 x6 x7 x8 x9 x10 x11 x12 x13
      = whole Row.refRow x0 x1 x2 x3 x4 x5 x6 x7 x8 x9 x10 x11 x12 x13 := by
  funext i
  obtain ⟨z, n, j, rfl⟩ : ∃ (z : Fin 1) (n : Fin 2048) (j : Fin 1024), i = ix3 z n j := ⟨i 0, i 1, i 2, eq_ix3 i⟩
  obtain rfl : z = 0 := Subsingleton.elim _ _
  rw [v143_apply]
  simp only [v101_apply]
  rfl

end Cert.Proof.RefValue

end
end
-- ==== Proof.Pre.lean ====
/- What the precondition says: every row of every head has the gap between its 204th and its 205th greatest score. -/
module

public import proofs.«01_k».proof.Pre_separated
public import proofs.«01_k».proof.Proof.RefSoftmax

@[expose] public section

set_option maxRecDepth 16384

noncomputable section

namespace Cert.Proof.Pre

open Cert.Proof.Spec
open Idealize.ShloMosaic Idealize.ShloMosaic.TcCoe Idealize.SL.Sem Idealize.ShloMosaic.StableHlo
open Cert.Pre_separated (S1x2048x1024 S1024 S1024x1024 S4096x1024 S4096 S1024x4096 S1x16x2048x2048 S1x16x2048x205 S1x16x2048 S1x16x2048x1)

/-- The shape relations the precondition's operations take hold. -/
theorem facts : Cert.Pre_separated.Facts := by
  constructor <;> decide

variable [Cert.Pre_separated.Facts]
open Cert.Pre_separated.Facts

/-- One position of the ordered greatest entries, with its last axis dropped. -/
theorem slice_apply (v : FVec Ideal S1x16x2048x205 .f32) (h : Fin 16) (n : Fin 2048) :
    shapeCast S1x16x2048 (extractStridedSlice S1x16x2048x1 ![0, 0, 0, 203] v slices_S1x16x2048x205_S1x16x2048x1_0_0_0_203)
      shapeCasts_S1x16x2048x1_S1x16x2048 (ix3 0 h n) = v (ix4 0 h n 203) ∧
    shapeCast S1x16x2048 (extractStridedSlice S1x16x2048x1 ![0, 0, 0, 204] v slices_S1x16x2048x205_S1x16x2048x1_0_0_0_204)
      shapeCasts_S1x16x2048x1_S1x16x2048 (ix3 0 h n) = v (ix4 0 h n 204) := by
  constructor
  · pointwise
  · pointwise

/-- A comparison that comes out one is a strict inequality. -/
theorem lt_of_cmpf (x y : EReal) (h : FloatOps.cmpf (F := Ideal) (φ := .f32) .ogt x y = 1#1) : y < x := by
  have h' : BitVec.ofBool (decide (y < x)) = 1#1 := h
  by_contra hn
  rw [decide_eq_false hn] at h'
  exact absurd h' (by decide)

/-- The precondition's comparison, of any arrays of greatest, least, 204th and 205th entries. -/
theorem tail {σ u : Shape} (T B P Q : FVec Ideal σ .f32) (d : Fin u.rank → Fin σ.rank) (hb : u.BroadcastsInDim σ d) (i : σ.Idx)
    (e : cmpf .ogt (subf P Q) (mulf (subf T B) (broadcastInDim σ d hb (constant (F := Ideal) u .f32 0x38800000#32))) i = 1#1) :
    (T i - B i) * ((1 / 16384 : ℝ) : EReal) < P i - Q i := by
  rw [← Consts.width_val]
  exact lt_of_cmpf _ _ e

/-- The gap, of a row whose extremes and two ordered entries are known. -/
theorem gap_of (s : Fin 2048 → EReal) (T B P Q : EReal) (hT : T = Finset.univ.sup s) (hB : B = Finset.univ.inf s)
    (hP : P = s (Row.order s 203)) (hQ : Q = s (Row.order s 204)) (h : (T - B) * ((1 / 16384 : ℝ) : EReal) < P - Q) : Row.Gap s := by
  subst hT hB hP hQ
  exact h

/-- The 204th and the 205th greatest entry of a row. -/
theorem ordered (s : FVec Ideal S1x16x2048x2048 .f32) (h : Fin 16) (n : Fin 2048) (k : Fin 205) (k' : Fin 2048) (hk : k.val = k'.val) :
    (Host.topK S1x16x2048x205 3 (FloatOps.cmpfTotal .gt) s sliceFits_S1x16x2048x2048_S1x16x2048x205).1 (ix4 0 h n k)
      = s (ix4 0 h n (Row.order (fun j => s (ix4 0 h n j)) k')) := by
  obtain rfl : k' = k.castLE (by decide) := Fin.ext hk.symm
  exact TopK.values_apply (K := 205) (by decide) s sliceFits_S1x16x2048x2048_S1x16x2048x205 h n k

/-- The precondition's comparison at a row of scores says that the row has the gap. -/
theorem part2_gap (s : FVec Ideal S1x16x2048x2048 .f32) (h : Fin 16) (n : Fin 2048)
    (e : Cert.Pre_separated.fn_part2 (F := Ideal) s
      (Host.topK S1x16x2048x205 3 (FloatOps.cmpfTotal .gt) s sliceFits_S1x16x2048x2048_S1x16x2048x205).1 (ix3 0 h n) = 1#1) :
    Row.Gap (fun j => s (ix4 0 h n j)) := by
  have h1 := ordered s h n 203 203 rfl
  have h2 := ordered s h n 204 204 rfl
  have ht := TopK.reduceMax s (constant Cert.Pre_separated.S_ .f32 0xFF800000#32) reducesTo_S1x16x2048x2048_S1x16x2048_d3 h_S_
    (fun _ => Consts.ninf_val) 0 h n
  have hb := TopK.reduceMin s (constant Cert.Pre_separated.S_ .f32 0x7F800000#32) reducesTo_S1x16x2048x2048_S1x16x2048_d3 h_S_
    (fun _ => Consts.pinf_val) 0 h n
  unfold Cert.Pre_separated.fn_part2 at e
  dsimp only at e
  have e' := tail _ _ _ _ _ _ _ e
  exact gap_of _ _ _ _ _ ht hb ((slice_apply _ h n).1.trans h1) ((slice_apply _ h n).2.trans h2) e'

/-- Where the precondition holds, every row of every head has the gap. -/
theorem gap (x0 : FVec Ideal S1x2048x1024 .f32) (x1 x2 : FVec Ideal S1024 .f32) (x3 x4 x5 x6 : FVec Ideal S1024x1024 .f32)
    (x7 x8 x9 : FVec Ideal S1024 .f32) (x10 : FVec Ideal S4096x1024 .f32) (x11 : FVec Ideal S4096 .f32)
    (x12 : FVec Ideal S1024x4096 .f32) (x13 : FVec Ideal S1024 .f32)
    (e : Cert.Pre_separated.fn (F := Ideal) x0 x1 x2 x3 x4 x5 x6 x7 x8 x9 x10 x11 x12 x13 = fun _ => 1#1) (h : Fin 16) (n : Fin 2048) :
    Row.Gap (scores (proj (rows x0) (vec x1) (vec x2) (mat x3)) (proj (rows x0) (vec x1) (vec x2) (mat x4)) h n) := by
  have hs : scores (proj (rows x0) (vec x1) (vec x2) (mat x3)) (proj (rows x0) (vec x1) (vec x2) (mat x4)) h n
      = fun j => Cert.ReferenceIdeal.Read.val_main_v42 (F := Ideal) x0 x1 x2 x3 x4 (ix4 0 h n j) :=
    funext fun j => (RefScores.v42_apply x0 x1 x2 x3 x4 h n j).symm
  rw [hs]
  have hf : Cert.Pre_separated.fn (F := Ideal) x0 x1 x2 x3 x4 x5 x6 x7 x8 x9 x10 x11 x12 x13
      = Cert.Pre_separated.fn_part2 (F := Ideal) (Cert.ReferenceIdeal.Read.val_main_v42 (F := Ideal) x0 x1 x2 x3 x4)
        (Host.topK S1x16x2048x205 3 (FloatOps.cmpfTotal .gt) (Cert.ReferenceIdeal.Read.val_main_v42 (F := Ideal) x0 x1 x2 x3 x4)
          sliceFits_S1x16x2048x2048_S1x16x2048x205).1 := rfl
  exact part2_gap _ h n ((congrFun hf _).symm.trans (congrFun e _))

end Cert.Proof.Pre

end
end
-- ==== Proof.Algebraic.lean ====
/- The kernel and the reference end with the same result where the precondition holds. -/
module

public import proofs.«01_k».proof.Defs
public import proofs.«01_k».proof.Proof.KernelRun
public import proofs.«01_k».proof.Proof.KernelValue
public import proofs.«01_k».proof.Proof.RefValue
public import proofs.«01_k».proof.Proof.Pre
public import proofs.«01_k».proof.Proof.Gen.ReferenceIdeal.Run

@[expose] public section

set_option maxRecDepth 16384

noncomputable section

namespace Cert.Proof.Algebraic

open Cert.Proof.Spec
open Idealize.ShloMosaic Idealize.ShloMosaic.TcCoe Idealize.SL.Sem

variable [Cert.Pre_separated.Facts]

/-- Where the precondition holds, both ways of weighting a row give the same block. -/
theorem whole_eq (x0 : FVec Ideal ⟨3, ![1, 2048, 1024]⟩ .f32) (x1 x2 : FVec Ideal ⟨1, ![1024]⟩ .f32)
    (x3 x4 x5 x6 : FVec Ideal ⟨2, ![1024, 1024]⟩ .f32) (x7 x8 x9 : FVec Ideal ⟨1, ![1024]⟩ .f32)
    (x10 : FVec Ideal ⟨2, ![4096, 1024]⟩ .f32) (x11 : FVec Ideal ⟨1, ![4096]⟩ .f32)
    (x12 : FVec Ideal ⟨2, ![1024, 4096]⟩ .f32) (x13 : FVec Ideal ⟨1, ![1024]⟩ .f32)
    (e : Cert.Pre_separated.fn (F := Ideal) x0 x1 x2 x3 x4 x5 x6 x7 x8 x9 x10 x11 x12 x13 = fun _ => 1#1) :
    whole Row.kernelRow x0 x1 x2 x3 x4 x5 x6 x7 x8 x9 x10 x11 x12 x13
      = whole Row.refRow x0 x1 x2 x3 x4 x5 x6 x7 x8 x9 x10 x11 x12 x13 := by
  funext i
  exact block_eq _ _ _ _ _ _ _ _ _ _ _ _ _ _ (fun h n => Pre.gap x0 x1 x2 x3 x4 x5 x6 x7 x8 x9 x10 x11 x12 x13 e h n) (i 1) (i 2)

/-- From memories that agree on the arguments and meet the precondition, the kernel and the reference end with the same result. -/
theorem algebraic : Cert.algebraic_KernelIdeal_ReferenceIdeal_pre_separated := by
  intro m g m' g' hp heq
  refine ⟨fun c => whole Row.refRow (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run _ _ _).mono (fun r h c => ⟨(h c).1.trans ?_, (h c).2⟩) (KernelRun.run (F := Ideal) m g)
    exact (KernelValue.v11_eq m g c).trans (whole_eq _ _ _ _ _ _ _ _ _ _ _ _ _ _ (hp c))
  · refine (θ_run _ _ _).mono (fun r h c => ⟨(h c).1.trans ?_, (h c).2⟩) (Cert.ReferenceIdeal.Value.run (F := Ideal) m' g')
    obtain ⟨h0, h1, h2, h3, h4, h5, h6, h7, h8, h9, h10, h11, h12, h13⟩ := heq c
    refine (Cert.ReferenceIdeal.Read.val_main_v143_eq (F := Ideal) (StableHlo.launchContents m' c)).trans ?_
    refine (RefValue.v143_eq _ _ _ _ _ _ _ _ _ _ _ _ _ _).trans ?_
    beta_reduce
    rw [← h0, ← h1, ← h2, ← h3, ← h4, ← h5, ← h6, ← h7, ← h8, ← h9, ← h10, ← h11, ← h12, ← h13]

end Cert.Proof.Algebraic

end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The kernel at machine floats ends with its arguments unchanged and every counter at zero. -/
theorem frame_p : Cert.quiescent_Kernel := fun m ρ _ => Cert.Kernel.Gen.frame m ρ

/-- So does the kernel at the extended reals. -/
theorem frame_pi : Cert.quiescent_KernelIdeal := fun m ρ _ => Cert.KernelIdeal.Gen.frame m ρ

/-- So does the reference. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Everything claimed. -/
theorem claim : Cert.Claim :=
  ⟨Cert.Kernel.Gen.facts, Cert.KernelIdeal.Gen.facts, Cert.ReferenceIdeal.Gen.facts, Pre.facts,
    frame_p, frame_pi, fun m ρ _ => frame_pi m ρ trivial, frame_ri, fun m ρ _ => frame_ri m ρ trivial, trivial,
    @Algebraic.algebraic Pre.facts⟩

end Cert.Proof

end
